-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_cst_32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S1x1 : Shape := ⟨2, ![1, 1]⟩
abbrev S1x288x10000 : Shape := ⟨3, ![1, 288, 10000]⟩
abbrev S10080x128 : Shape := ⟨2, ![10080, 128]⟩
abbrev S64x64 : Shape := ⟨2, ![64, 64]⟩
abbrev S10000x64 : Shape := ⟨2, ![10000, 64]⟩
abbrev S80x128 : Shape := ⟨2, ![80, 128]⟩
abbrev S288x10000 : Shape := ⟨2, ![288, 10000]⟩
abbrev S288x64 : Shape := ⟨2, ![288, 64]⟩
abbrev S288x128 : Shape := ⟨2, ![288, 128]⟩
abbrev S1x64x64 : Shape := ⟨3, ![1, 64, 64]⟩
abbrev S1 : Shape := ⟨1, ![1]⟩
abbrev S1x1x1 : Shape := ⟨3, ![1, 1, 1]⟩
abbrev S_ : Shape := ⟨0, ![]⟩

abbrev nBuf : Space → Nat
  | .hbm => 17
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x128, .f32⟩
  | .hbm, ⟨11, _⟩ => ⟨S1x64, .f32⟩
  | .hbm, ⟨12, _⟩ => ⟨S1x128, .f32⟩
  | .hbm, ⟨13, _⟩ => ⟨S1x64, .f32⟩
  | .hbm, ⟨14, _⟩ => ⟨S1x1, .f32⟩
  | .hbm, ⟨15, _⟩ => ⟨S_, .f32⟩
  | .hbm, ⟨16, _⟩ => ⟨S_, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S1x288x10000, .f32⟩
  | .local _ .vmem, ⟨10, _⟩ => ⟨S1x288x10000, .f32⟩
  | .local _ .vmem, ⟨11, _⟩ => ⟨S1x288x10000, .f32⟩
  | .local _ .vmem, ⟨12, _⟩ => ⟨S1x288x10000, .f32⟩
  | .local _ .vmem, ⟨13, _⟩ => ⟨S1x1, .f32⟩
  | .local _ .vmem, ⟨14, _⟩ => ⟨S10080x128, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![35], ![false]⟩

def k0_off1 (i : grid0.Coords) : Fin 2 → Nat :=
  let arg0 : BitVec 32 := BitVec.ofNat 32 (i 0).val
  let c288_i32_12 : BitVec 32 := 288#32
  let v21 : BitVec 32 := Scalar.muli arg0 c288_i32_12
  let v22 : Index := Scalar.indexCast v21
  let c0_13 : Index := 0#32
  ![v22.toNat, 0]
def k0_cond2 (i : grid0.Coords) : BitVec 1 :=
  let arg0 : BitVec 32 := BitVec.ofNat 32 (i 0).val
  let c34_i32 : BitVec 32 := 34#32
  let v44 : BitVec 1 := Scalar.cmpi .eq arg0 c34_i32
  let v45 : BitVec 32 := Scalar.extui v44
  let c0_i32_29 : BitVec 32 := 0#32
  let v46 : BitVec 1 := Scalar.cmpi .ne v45 c0_i32_29
  v46

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x288x10000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x288x10000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S1x10000x10000 : Shape := ⟨3, ![1, 10000, 10000]⟩
abbrev S10000x10000 : Shape := ⟨2, ![10000, 10000]⟩
abbrev S64x10000 : Shape := ⟨2, ![64, 10000]⟩
abbrev S64x64 : Shape := ⟨2, ![64, 64]⟩
abbrev S64x1 : Shape := ⟨2, ![64, 1]⟩
abbrev S64x2 : Shape := ⟨2, ![64, 2]⟩

abbrev nBuf : Space → Nat
  | .hbm => 162
  | .vmem => 0
  | .smem => 0
  | _ => 0

abbrev hbmTy0_0 (i : Nat) : BufTy := match i % 128 with
  | 0 => ⟨S10000x128, .f32⟩
  | 1 => ⟨S2x10000x10000, .f32⟩
  | 2 => ⟨S128x128, .f32⟩
  | 3 => ⟨S128, .f32⟩
  | 4 => ⟨S128x64, .f32⟩
  | 5 => ⟨S64, .f32⟩
  | 6 => ⟨S128x128, .f32⟩
  | 7 => ⟨S128, .f32⟩
  | 8 => ⟨S128x64, .f32⟩
  | 9 => ⟨S64, .f32⟩
  | 10 => ⟨S10000x128, .f32⟩
  | 11 => ⟨S1x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S10000x64, .f32⟩
  | 18 => ⟨S1x64, .f32⟩
  | 19 => ⟨S10000x64, .f32⟩
  | 20 => ⟨S10000x64, .f32⟩
  | 21 => ⟨S1x10000x10000, .f32⟩
  | 22 => ⟨S10000x10000, .f32⟩
  | 23 => ⟨S10000x64, .f32⟩
  | 24 => ⟨S10000x128, .f32⟩
  | 25 => ⟨S1x128, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x64, .f32⟩
  | 32 => ⟨S1x64, .f32⟩
  | 33 => ⟨S10000x64, .f32⟩
  | 34 => ⟨S10000x64, .f32⟩
  | 35 => ⟨S1x10000x10000, .f32⟩
  | 36 => ⟨S10000x10000, .f32⟩
  | 37 => ⟨S10000x64, .f32⟩
  | 38 => ⟨S64x10000, .f32⟩
  | 39 => ⟨S64x64, .f32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S64x1, .i32⟩
  | 57 => ⟨S64x2, .i32⟩
  | 58 => ⟨S64, .f32⟩
  | 59 => ⟨S_, .f32⟩
  | 60 => ⟨S64, .f32⟩
  | 61 => ⟨S64, .f32⟩
  | 62 => ⟨S64, .f32⟩
  | 63 => ⟨S_, .f32⟩
  | 64 => ⟨S_, .f32⟩
  | 65 => ⟨S64x64, .f32⟩
  | 66 => ⟨S_, .f32⟩
  | 67 => ⟨S_, .f32⟩
  | 68 => ⟨S64, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S64x10000, .f32⟩
  | 80 => ⟨S64x64, .f32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S_, .i32⟩
  | 90 => ⟨S64, .i32⟩
  | 91 => ⟨S64, .i1⟩
  | 92 => ⟨S_, .i32⟩
  | 93 => ⟨S64, .i32⟩
  | 94 => ⟨S64, .i32⟩
  | 95 => ⟨S64, .i32⟩
  | 96 => ⟨S64x1, .i32⟩
  | 97 => ⟨S64x1, .i32⟩
  | 98 => ⟨S64x2, .i32⟩
  | 99 => ⟨S64, .f32⟩
  | 100 => ⟨S_, .f32⟩
  | 101 => ⟨S64, .f32⟩
  | 102 => ⟨S64, .f32⟩
  | 103 => ⟨S64, .f32⟩
  | 104 => ⟨S_, .f32⟩
  | 105 => ⟨S_, .f32⟩
  | 106 => ⟨S64x64, .f32⟩
  | 107 => ⟨S_, .f32⟩
  | 108 => ⟨S_, .f32⟩
  | 109 => ⟨S64, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S64x10000, .f32⟩
  | 121 => ⟨S64x64, .f32⟩
  | 122 => ⟨S64, .i32⟩
  | 123 => ⟨S_, .i32⟩
  | 124 => ⟨S64, .i32⟩
  | 125 => ⟨S64, .i1⟩
  | 126 => ⟨S_, .i32⟩
  | 127 => ⟨S64, .i32⟩
  | _ => ⟨S10000x128, .f32⟩

abbrev hbmTy0_1 (i : Nat) : BufTy := match i % 128 with
  | 0 => ⟨S64, .i32⟩
  | 1 => ⟨S64, .i32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S64, .i32⟩
  | 9 => ⟨S64x1, .i32⟩
  | 10 => ⟨S64x1, .i32⟩
  | 11 => ⟨S64x2, .i32⟩
  | 12 => ⟨S64, .f32⟩
  | 13 => ⟨S_, .f32⟩
  | 14 => ⟨S64, .f32⟩
  | 15 => ⟨S64, .f32⟩
  | 16 => ⟨S64, .f32⟩
  | 17 => ⟨S_, .f32⟩
  | 18 => ⟨S_, .f32⟩
  | 19 => ⟨S64x64, .f32⟩
  | 20 => ⟨S_, .f32⟩
  | 21 => ⟨S_, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_2 : Ref sig .tc := ⟨.hbm, 48, rfl⟩
abbrev main_v34 : Ref sig .tc := ⟨.hbm, 49, rfl⟩
abbrev main_v35 : Ref sig .tc := ⟨.hbm, 50, rfl⟩
abbrev main_c_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_v84 : Ref sig .tc := ⟨.hbm, 117, rfl⟩
abbrev main_cst_21 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_22 : Ref sig .tc := ⟨.hbm, 123, rfl⟩
abbrev main_v89 : Ref sig .tc := ⟨.hbm, 124, rfl⟩
abbrev main_v90 : Ref sig .tc := ⟨.hbm, 125, rfl⟩
abbrev main_c_23 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_24 : Ref sig .tc := ⟨.hbm, 130, rfl⟩
abbrev main_v94 : Ref sig .tc := ⟨.hbm, 131, rfl⟩
abbrev main_v95 : Ref sig .tc := ⟨.hbm, 132, rfl⟩
abbrev main_c_25 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_26 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_27 : Ref sig .tc := ⟨.hbm, 145, rfl⟩
abbrev main_v106 : Ref sig .tc := ⟨.hbm, 146, rfl⟩
abbrev main_v107 : Ref sig .tc := ⟨.hbm, 147, rfl⟩
abbrev main_cst_28 : Ref sig .tc := ⟨.hbm, 148, rfl⟩
abbrev main_v108 : Ref sig .tc := ⟨.hbm, 149, rfl⟩
abbrev main_v109 : Ref sig .tc := ⟨.hbm, 150, rfl⟩
abbrev main_cst_29 : Ref sig .tc := ⟨.hbm, 151, rfl⟩
abbrev main_v110 : Ref sig .tc := ⟨.hbm, 152, rfl⟩
abbrev main_v111 : Ref sig .tc := ⟨.hbm, 153, rfl⟩
abbrev main_cst_30 : Ref sig .tc := ⟨.hbm, 154, rfl⟩
abbrev main_v112 : Ref sig .tc := ⟨.hbm, 155, rfl⟩
abbrev main_v113 : Ref sig .tc := ⟨.hbm, 156, rfl⟩
abbrev main_cst_31 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_32 : Ref sig .tc := ⟨.hbm, 161, rfl⟩

abbrev nD : Nat := 1
abbrev τ : Topo := Topo.v7x

variable {F : FTy → Type} [FloatOps F]
-- ==== Proof.KernelFrame.lean ====
/-
  The frame of `Kernel` at any float values: the body obligation with the scratch buffers at any contents and the
  result's staging buffer forgotten, and the run of @main read at the argument arrays.
-/
module

public import proofs.«01_k».proof.Proof.KernelBody

@[expose] public section

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at the first point and nowhere else. -/
theorem cond1_iff : ∀ t : Fin grid0.N, cond1 (grid0.coords t) ↔ t.val = 0 := by decide +kernel
/-- The second branch is taken at the last point and nowhere else. -/
theorem cond2_iff : ∀ t : Fin grid0.N, k0_cond2 (grid0.coords t) = 1#1 ↔ t.val = 34 := by decide +kernel

/-- The adjacency blocks as fetched, past the array's end a word nothing reads. -/
def adj0 (c : Dev nD) (t : Fin cfg0.N) : S1x288x10000.Idx → Elt F .f32 :=
  win0_9.fill (grid0.coords t) (fun _ => Scalar.ofBits .f32 0#32) (iblk m c 9 t)
def adj1 (c : Dev nD) (t : Fin cfg0.N) : S1x288x10000.Idx → Elt F .f32 :=
  win0_10.fill (grid0.coords t) (fun _ => Scalar.ofBits .f32 0#32) (iblk m c 10 t)

/-- The proof data: the inputs' buffers keep their blocks, nothing is said of the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => adj0 m c t
    | ⟨10, _⟩ => adj1 m c t
    | ⟨11, _⟩ => fun _ => Scalar.ofBits .f32 0#32
  Φ _ := Pipeline.ΦA spec0 c
  q w := Pipeline.shareOf spec0 w
  owed _ := 0

/-- The window the certificate says nothing of: the result's. -/
def fgt (w : Fin cfg0.W) : Bool := w == 11
theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = false := rfl
theorem fgt_10 : fgt 10 = false := rfl
theorem fgt_11 : fgt 11 = true := rfl

theorem before_9 (c : Dev nD) (t : Fin cfg0.N) (d) :
    (dats m 0 c).before 9 t d = win0_9.fill (grid0.coords t) d (iblk m c 9 t) := by
  unfold Dat.before; rw [if_pos (fetch0_9 t)]; rfl
theorem before_10 (c : Dev nD) (t : Fin cfg0.N) (d) :
    (dats m 0 c).before 10 t d = win0_10.fill (grid0.coords t) d (iblk m c 10 t) := by
  unfold Dat.before; rw [if_pos (fetch0_10 t)]; rfl

theorem defs₀_row (t : Fin cfg0.N) : defs₀ (F := F) .tc cfg0.body (cfg0.bodyArgs t (cfg0.slots t)) = bodyAt0 t := by
  unfold defs₀; rw [Defs.onTc_tc]

/-- What the loop hands the body is what it takes back: the fetched blocks as found, the scratch buffers at any
    contents, the result's buffer at any contents. -/
abbrev held (c : Dev nD) (t : Fin cfg0.N) (d9 d10 : S1x288x10000.Idx → Elt F .f32) : sProp 𝕄 :=
  iprop(Pipeline.ΦA spec0 c ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (win0_9.fill (grid0.coords t) d9 (iblk m c 9 t))
    ∗ owns (c : Thread nD τ) (win0_10.stage (cfg0.slots t 10)) fullShare (win0_10.fill (grid0.coords t) d10 (iblk m c 10 t))
    ∗ ∃ X, owns (c : Thread nD τ) (win0_11.stage (cfg0.slots t 11)) fullShare X)

/-- The scratch buffers, each owned whole at some contents. -/
theorem scoped_eq (c : Dev nD) : (Pipeline.scopedRest (Ix := Unit) (Name := ℕ) (U := UR sig nD τ) (Lvl := ℕ) (Val := Elt F) spec0 c : sProp 𝕄)
    = iprop((∃ f : Vec F S10080x128 .f32, owns (c : Thread nD τ) (Memref.whole cc0_scratch0) fullShare f)
      ∗ (∃ f : Vec F S64x64 .f32, owns (c : Thread nD τ) (Memref.whole cc0_scratch1) fullShare f)
      ∗ (∃ f : Vec F S64x64 .f32, owns (c : Thread nD τ) (Memref.whole cc0_scratch2) fullShare f)
      ∗ (∃ f : Vec F S64x64 .f32, owns (c : Thread nD τ) (Memref.whole cc0_scratch3) fullShare f)) := by
  rw [scopedRest0_eq]; simp only [owns_whole]; rfl

theorem sound_body (c : Dev nD) (t : Fin cfg0.N) (d9 d10 : S1x288x10000.Idx → Elt F .f32) (K : PUnit → sProp 𝕄) :
    iprop(held m c t d9 d10 ∗ (held m c t d9 d10 -∗ K ⟨⟩)) ⊢ wp frame (wpE (defs₀ (F := F)) Variants.none c none) Set.univ (bodyAt0 t) K := by
  unfold held Pipeline.ΦA
  rw [scoped_eq]
  iintro ⟨⟨⟨⟨⟨%f0, S0⟩, ⟨%f1, S1⟩, ⟨%f2, S2⟩, ⟨%f3, S3⟩⟩, Hg⟩, H0, H1, H2, H3, H4, H5, H6, H7, H8, H9, H10, ⟨%X, H11⟩⟩, Hk⟩
  by_cases ht0 : t.val = 0
  · iapply (run_first c (grid0.coords t) _ _ _ _ _ _ _ _ _ _ _ _ _ _ _ _ _ _ _ _ _ _ _ _ _ _ _ _ _ _ _ _
      ((cond1_iff t).2 ht0) (fun h => by have := (cond2_iff t).1 h; omega) (x1 := iblk m c 0 t) (x2 := iblk m c 1 t) (x3 := iblk m c 2 t) (x4 := iblk m c 3 t) (x5 := iblk m c 4 t) (x6 := iblk m c 5 t) (x7 := iblk m c 6 t) (x8 := iblk m c 7 t) (x9 := iblk m c 8 t) (x10 := win0_9.fill (grid0.coords t) d9 (iblk m c 9 t)) (x11 := win0_10.fill (grid0.coords t) d10 (iblk m c 10 t))
      (x13 := f0) (x14 := f1) (x15 := f2) (x16 := f3) (E := Set.univ) (K := K))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    iapply Hk
    isplitl [S0 S1 S2 S3 Hg]
    · isplitr [Hg]
      · isplitl [S0]; · iexists _; iexact S0
        isplitl [S1]; · iexists _; iexact S1
        isplitl [S2]; · iexists _; iexact S2
        iexists _; iexact S3
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists X; iexact H11
  by_cases ht1 : t.val = 34
  · iapply (run_last c (grid0.coords t) _ _ _ _ _ _ _ _ _ _ _ _ _ _ _ _ _ _ _ _ _ _ _ _ _ _ _ _ _ _ _ _
      (fun h => ht0 ((cond1_iff t).1 h)) ((cond2_iff t).2 ht1) (x10 := win0_9.fill (grid0.coords t) d9 (iblk m c 9 t)) (x11 := win0_10.fill (grid0.coords t) d10 (iblk m c 10 t)) (x12 := X)
      (x13 := f0) (x14 := f1) (x15 := f2) (x16 := f3) (E := Set.univ) (K := K))
    isplitl [H9]; · iexact H9
    isplitl [H10]; · iexact H10
    isplitl [H11]; · iexact H11
    isplitl [S0]; · iexact S0
    isplitl [S1]; · iexact S1
    isplitl [S2]; · iexact S2
    isplitl [S3]; · iexact S3
    iintro ⟨H9, H10, H11, S0, S1, S2, S3⟩
    iapply Hk
    isplitl [S0 S1 S2 S3 Hg]
    · isplitr [Hg]
      · isplitl [S0]; · iexists _; iexact S0
        isplitl [S1]; · iexists _; iexact S1
        isplitl [S2]; · iexists _; iexact S2
        iexists _; iexact S3
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · iapply (run_mid c (grid0.coords t) _ _ _ _ _ _ _ _ _ _ _ _ _ _ _ _ _ _ _ _ _ _ _ _ _ _ _ _ _ _ _ _
      (fun h => ht0 ((cond1_iff t).1 h)) (fun h => ht1 ((cond2_iff t).1 h)) (x10 := win0_9.fill (grid0.coords t) d9 (iblk m c 9 t)) (x11 := win0_10.fill (grid0.coords t) d10 (iblk m c 10 t))
      (x13 := f0) (x14 := f1) (x15 := f2) (x16 := f3) (E := Set.univ) (K := K))
    isplitl [H9]; · iexact H9
    isplitl [H10]; · iexact H10
    isplitl [S0]; · iexact S0
    isplitl [S1]; · iexact S1
    isplitl [S2]; · iexact S2
    isplitl [S3]; · iexact S3
    iintro ⟨H9, H10, S0, S1, S2, S3⟩
    iapply Hk
    isplitl [S0 S1 S2 S3 Hg]
    · isplitr [Hg]
      · isplitl [S0]; · iexists _; iexact S0
        isplitl [S1]; · iexists _; iexact S1
        isplitl [S2]; · iexists _; iexact S2
        iexists _; iexact S3
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists X; iexact H11

theorem body_obligation (c : Dev nD) : BodyObligationLoose (dats m 0 c) (defs₀ (F := F)) Variants.none () Set.univ fgt := fun t => by
  rw [bigSep_W0, bigSep_W0, defs₀_row]
  simp only [fgt_0, fgt_1, fgt_2, fgt_3, fgt_4, fgt_5, fgt_6, fgt_7, fgt_8, fgt_9, fgt_10, fgt_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7,
    before0_8_of m (dats m 0 c) rfl (fun _ => rfl) t d8, before_9 m c t d9, before_10 m c t d10]
  iapply (sound_body m c t d9 d10 _)
  isplitr [Ho]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨HΦ, H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  have hx : win0_9.cut (grid0.coords t) (adj0 m c t) = iblk m c 9 t := win0_9.cut_fill _ _ _
  have hy : win0_10.cut (grid0.coords t) (adj1 m c t) = iblk m c 10 t := win0_10.cut_fill _ _ _
  isplitl [H9]
  · iexists d9
    change _ ⊢ owns (c : Thread nD τ) (win0_9.stage (cfg0.slots t 9)) fullShare (win0_9.fill (grid0.coords t) d9 (win0_9.cut (grid0.coords t) (adj0 m c t)))
    rw [hx]
  isplitl [H10]
  · iexists d10
    change _ ⊢ owns (c : Thread nD τ) (win0_10.stage (cfg0.slots t 10)) fullShare (win0_10.fill (grid0.coords t) d10 (win0_10.cut (grid0.coords t) (adj1 m c t)))
    rw [hy]
  iexact H11

/-- The arrays the operations after the region write. -/
abbrev tailWrites : Finset (Ref sig .tc) := {main_v5, main_cst}

theorem sfx_writes : ∀ ops ∈ ([hostOps1] : List (List (HloOp τ sig (Elt F)))), ∀ op ∈ ops, ∀ b : Ref sig .tc, Proc.devRef .tc b ∈ op.writes → b ∈ tailWrites := by
  intro ops hops op hop b hb
  rw [List.mem_singleton] at hops; subst hops
  simp only [hostOps1, List.mem_cons, List.not_mem_nil, or_false] at hop
  rcases hop with rfl | rfl
  · rw [StableHlo.reshape_writes, Finset.mem_singleton] at hb
    by_contra hne
    exact StableHlo.devRef_ne_of_ne (x := b) (y := main_v5) (fun h => hne (by rw [h]; simp)) hb
  · rw [StableHlo.nullary_writes, Finset.mem_singleton] at hb
    by_contra hne
    exact StableHlo.devRef_ne_of_ne (x := b) (y := main_cst) (fun h => hne (by rw [h]; simp)) hb

set_option backward.isDefEq.respectTransparency.types false in
/-- Every execution of @main ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_frame_around_T_forget_shared cfgs (dats m) (0 : Fin 1) launch₀0 defs₀ Variants.none fgt tailWrites m ρ main
    (body_obligation m) (fun _ _ _ => rfl) (fun _ _ => rfl) (V0 m) [hostOps1] sfx_sub sfx_fresh sfx_keeps sfx_writes
    (hmain m Variants.none) (fun _ _ => rfl) (fun _ _ => rfl) _ (by
      rintro r ⟨h, hs⟩
      refine ⟨fun c => ?_, hs⟩
      have hin : ∀ w, (cfg0.win w).isOut = false → r.2.mem (((cfg0).spec w).arr.view.loc (c.tc : Thread nD τ)) = V m c (Pipeline.arrRef spec0 w) :=
        fun w hw => (congrFun (((dats m 0 c).toRForget fgt).ArrAt_in w hw _) _).mp ((h c).1 w)
      have hrest : ∀ b, b ∉ tailWrites → b ∈ Pipeline.restRefs sig spec0 → r.2.mem ((c.tc : Thread nD τ).loc b) = V m c b :=
        fun b hb hr => (h c).2 b (Finset.mem_sdiff.2 ⟨hr, hb⟩)
      exact ⟨(hin 0 rfl).trans (V_main_arg0 m c), (hin 10 rfl).trans (V_main_arg1 m c), (hin 1 rfl).trans (V_main_arg2 m c),
        (hrest main_arg3 (by decide) (Pipeline.mem_restRefs_of main_arg3 (by decide) (by decide))).trans (V_main_arg3 m c),
        (hin 3 rfl).trans (V_main_arg4 m c),
        (hrest main_arg5 (by decide) (Pipeline.mem_restRefs_of main_arg5 (by decide) (by decide))).trans (V_main_arg5 m c),
        (hin 5 rfl).trans (V_main_arg6 m c),
        (hrest main_arg7 (by decide) (Pipeline.mem_restRefs_of main_arg7 (by decide) (by decide))).trans (V_main_arg7 m c),
        (hin 7 rfl).trans (V_main_arg8 m c),
        (hrest main_arg9 (by decide) (Pipeline.mem_restRefs_of main_arg9 (by decide) (by decide))).trans (V_main_arg9 m c)⟩)

end Cert.Kernel.Run

end
-- ==== Proof.IdealBody.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The condition of the body's first branch: the point is the grid's first. -/
abbrev cond1 (i : grid0.Coords) : Prop :=
  Scalar.cmpi .ne (Scalar.extui (Scalar.cmpi .eq (BitVec.ofNat 32 (i 0).val) 0#32)) 0#32 = 1#1

/-- A load of a whole accumulator after one store of the whole of it reads what was stored. -/
theorem readCov64 (v : View sig .tc .vmem S64x64 .f32) (w : Vec F S64x64 .f32) (L : List (View.Piece (Elt F) S64x64 .f32)) :
    v.readCov (Val := Elt F) (⟨Rect.unit (s := S64x64) ![0, 0] ![64, 64] inb_S64x64_S64x64_0_0, w⟩ :: L) (Rect.unit (s := S64x64) ![0, 0] ![64, 64] inb_S64x64_S64x64_0_0).toLoadRect = w :=
  View.readCov_full ..

/-- The first encoder's columns of the stored activations: rows 0 to 9999, columns 0 to 63. -/
abbrev rL : Rect S10080x128 := Rect.unit (s := S10080x128) ![0, 0] S10000x64.size inb_S10080x128_S10000x64_0_0
/-- The second encoder's columns of the stored activations: rows 0 to 9999, columns 64 to 127. -/
abbrev rR : Rect S10080x128 := Rect.unit (s := S10080x128) ![0, 64] S10000x64.size inb_S10080x128_S10000x64_0_64
/-- The padding rows of the stored activations: rows 10000 to 10079. -/
abbrev rP : Rect S10080x128 := Rect.unit (s := S10080x128) ![10000, 0] S80x128.size inb_S10080x128_S80x128_10000_0
/-- The block of rows of the stored activations that belongs to the point. -/
abbrev rB (i : grid0.Coords) : Rect S10080x128 := Rect.unit (s := S10080x128) (k0_off1 i) S288x128.size (k0_off1_inb i)

/-- The stored activations: both encoders' outputs side by side over zero padding rows. -/
def acts (x1 : Vec F S10000x128 .f32) (x2 : Vec F S128x128 .f32) (x3 : Vec F S1x128 .f32) (x4 : Vec F S128x64 .f32) (x5 : Vec F S1x64 .f32)
    (x6 : Vec F S128x128 .f32) (x7 : Vec F S1x128 .f32) (x8 : Vec F S128x64 .f32) (x9 : Vec F S1x64 .f32) : Vec F S10080x128 .f32 :=
  View.canon (Val := Elt F) (e := .f32) [⟨rP, k0_pay12 (F := F)⟩, ⟨rR, k0_pay11 (k0_pay5 x1 x6 x7 x8 x9)⟩, ⟨rL, k0_pay4 x1 x2 x3 x4 x5⟩]

/-- The first accumulator after the point: what it held plus the block's product of the propagated and the stored first encoder. -/
def next14 (i : grid0.Coords) (x10 : Vec F S1x288x10000 .f32) (x13 : Vec F S10080x128 .f32) (x14 : Vec F S64x64 .f32) : Vec F S64x64 .f32 :=
  k0_pay21 i x10 (View.ld x13 rL) (View.ld x13 (rB i)) x14
/-- The second accumulator after the point, likewise for the second encoder. -/
def next15 (i : grid0.Coords) (x11 : Vec F S1x288x10000 .f32) (x13 : Vec F S10080x128 .f32) (x15 : Vec F S64x64 .f32) : Vec F S64x64 .f32 :=
  k0_pay1 (k0_pay19 i x11 (View.ld x13 rR)) (k0_pay20 (View.ld x13 (rB i))) x15
/-- The third accumulator after the point: what it held plus the block's product of the two propagated encoders. -/
def next16 (i : grid0.Coords) (x10 x11 : Vec F S1x288x10000 .f32) (x13 : Vec F S10080x128 .f32) (x16 : Vec F S64x64 .f32) : Vec F S64x64 .f32 :=
  k0_pay2 (k0_pay18 i x10 (View.ld x13 rL)) (k0_pay19 i x11 (View.ld x13 rR)) x16
/-- The loss the last point stores, from the three finished accumulators. -/
def loss (x14 x15 x16 : Vec F S64x64 .f32) : Vec F S1x1 .f32 :=
  k0_pay3 k0_pay6 (k0_pay7 x14) (k0_pay8 x15) (k0_pay9 x15) (k0_pay10 x15) x16

/-- The three stores that fill the activations cover them. -/
theorem acts_cover (p12 : Vec F S80x128 .f32) (p11 p4 : Vec F S10000x64 .f32) (y : S10080x128.Idx) :
    ∃ p ∈ ([⟨rP, p12⟩, ⟨rR, p11⟩, ⟨rL, p4⟩] : List (View.Piece (Elt F) S10080x128 .f32)), y ∈ p.1.set := by
  have h0 : (y 0 : Nat) < 10080 := (y 0).isLt
  have h1 : (y 1 : Nat) < 128 := (y 1).isLt
  by_cases hr : 10000 ≤ (y 0 : Nat)
  · refine ⟨⟨rP, p12⟩, by simp, ?_⟩
    rw [Rect.mem_set_unit]
    intro a
    match a with
    | ⟨0, _⟩ => show 10000 ≤ (y 0 : Nat) ∧ (y 0 : Nat) < 10000 + 80; omega
    | ⟨1, _⟩ => show 0 ≤ (y 1 : Nat) ∧ (y 1 : Nat) < 0 + 128; omega
  by_cases hl : 64 ≤ (y 1 : Nat)
  · refine ⟨⟨rR, p11⟩, by simp, ?_⟩
    rw [Rect.mem_set_unit]
    intro a
    match a with
    | ⟨0, _⟩ => show 0 ≤ (y 0 : Nat) ∧ (y 0 : Nat) < 0 + 10000; omega
    | ⟨1, _⟩ => show 64 ≤ (y 1 : Nat) ∧ (y 1 : Nat) < 64 + 64; omega
  · refine ⟨⟨rL, p4⟩, by simp, ?_⟩
    rw [Rect.mem_set_unit]
    intro a
    match a with
    | ⟨0, _⟩ => show 0 ≤ (y 0 : Nat) ∧ (y 0 : Nat) < 0 + 10000; omega
    | ⟨1, _⟩ => show 0 ≤ (y 1 : Nat) ∧ (y 1 : Nat) < 0 + 64; omega

set_option maxHeartbeats 4000000 in
/-- The body at a point that is neither the first nor the last. -/
theorem run_mid (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S128x64 .f32) (h4 : a4.IsWhole) (a5 : Memref sig .tc .vmem S1x64 .f32) (h5 : a5.IsWhole) (a6 : Memref sig .tc .vmem S128x128 .f32) (h6 : a6.IsWhole) (a7 : Memref sig .tc .vmem S1x128 .f32) (h7 : a7.IsWhole) (a8 : Memref sig .tc .vmem S128x64 .f32) (h8 : a8.IsWhole) (a9 : Memref sig .tc .vmem S1x64 .f32) (h9 : a9.IsWhole) (a10 : Memref sig .tc .vmem S1x288x10000 .f32) (h10 : a10.IsWhole) (a11 : Memref sig .tc .vmem S1x288x10000 .f32) (h11 : a11.IsWhole) (a12 : Memref sig .tc .vmem S1x1 .f32) (h12 : a12.IsWhole) (a13 : Memref sig .tc .vmem S10080x128 .f32) (h13 : a13.IsWhole) (a14 : Memref sig .tc .vmem S64x64 .f32) (h14 : a14.IsWhole) (a15 : Memref sig .tc .vmem S64x64 .f32) (h15 : a15.IsWhole) (a16 : Memref sig .tc .vmem S64x64 .f32) (h16 : a16.IsWhole)
    (hc1 : ¬cond1 i) (hc2 : ¬k0_cond2 i = 1#1)
    (x10 : Vec F S1x288x10000 .f32) (x11 : Vec F S1x288x10000 .f32) (x13 : Vec F S10080x128 .f32) (x14 : Vec F S64x64 .f32) (x15 : Vec F S64x64 .f32) (x16 : Vec F S64x64 .f32) (E : Set ℕ) (K : PUnit → sProp 𝕄) :
    iprop(owns (c : Thread nD τ) a10 fullShare x10 ∗ owns (c : Thread nD τ) a11 fullShare x11 ∗ owns (c : Thread nD τ) a13 fullShare x13 ∗ owns (c : Thread nD τ) a14 fullShare x14 ∗ owns (c : Thread nD τ) a15 fullShare x15 ∗ owns (c : Thread nD τ) a16 fullShare x16
        ∗ (iprop(owns (c : Thread nD τ) a10 fullShare x10 ∗ owns (c : Thread nD τ) a11 fullShare x11 ∗ owns (c : Thread nD τ) a13 fullShare x13 ∗ owns (c : Thread nD τ) a14 fullShare (next14 i x10 x13 x14) ∗ owns (c : Thread nD τ) a15 fullShare (next15 i x11 x13 x15) ∗ owns (c : Thread nD τ) a16 fullShare (next16 i x10 x11 x13 x16)) -∗ K ⟨⟩))
      ⊢ wp frame (wpE (defs₀ (F := F)) Variants.none c none) E (cc0__body i a1 h1 a2 h2 a3 h3 a4 h4 a5 h5 a6 h6 a7 h7 a8 h8 a9 h9 a10 h10 a11 h11 a12 h12 a13 h13 a14 h14 a15 h15 a16 h16) K := by
  simp only [cc0__body_eq_skeleton]; unfold cc0__body_skel
  simp only [k0_part1_eq_skeleton, k0_part2_eq_skeleton, k0_part3_eq_skeleton]
  unfold owns
  iintro ⟨⟨%f10, %hf10, H10⟩, ⟨%f11, %hf11, H11⟩, ⟨%f13, %hf13, H13⟩, ⟨%f14, %hf14, H14⟩, ⟨%f15, %hf15, H15⟩, ⟨%f16, %hf16, H16⟩, Hk⟩
  obtain rfl := h10.eq_unread hf10; obtain rfl := h11.eq_unread hf11; obtain rfl := h13.eq_unread hf13; obtain rfl := h14.eq_unread hf14; obtain rfl := h15.eq_unread hf15; obtain rfl := h16.eq_unread hf16
  sl_exec (disch := first | sl_exact hc1 | sl_exact hc2)
  sl_step
  iapply Hk
  isplitl [H10]
  · iexists _; isplitr; · ipureintro; exact h10.read_unread _
    iexact H10
  isplitl [H11]
  · iexists _; isplitr; · ipureintro; exact h11.read_unread _
    iexact H11
  isplitl [H13]
  · iexists _; isplitr; · ipureintro; exact h13.read_unread _
    iexact H13
  isplitl [H14]
  · iexists _; isplitr; swap; · iexact H14
    ipureintro
    sl_unfold_words
    rw [View.read_writes_full]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  isplitl [H15]
  · iexists _; isplitr; swap; · iexact H15
    ipureintro
    sl_unfold_words
    rw [View.read_writes_full]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  · iexists _; isplitr; swap; · iexact H16
    ipureintro
    sl_unfold_words
    rw [View.read_writes_full]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
set_option maxHeartbeats 4000000 in
/-- The body at the first point: the activations and the accumulators may hold anything before it. -/
theorem run_first (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S128x64 .f32) (h4 : a4.IsWhole) (a5 : Memref sig .tc .vmem S1x64 .f32) (h5 : a5.IsWhole) (a6 : Memref sig .tc .vmem S128x128 .f32) (h6 : a6.IsWhole) (a7 : Memref sig .tc .vmem S1x128 .f32) (h7 : a7.IsWhole) (a8 : Memref sig .tc .vmem S128x64 .f32) (h8 : a8.IsWhole) (a9 : Memref sig .tc .vmem S1x64 .f32) (h9 : a9.IsWhole) (a10 : Memref sig .tc .vmem S1x288x10000 .f32) (h10 : a10.IsWhole) (a11 : Memref sig .tc .vmem S1x288x10000 .f32) (h11 : a11.IsWhole) (a12 : Memref sig .tc .vmem S1x1 .f32) (h12 : a12.IsWhole) (a13 : Memref sig .tc .vmem S10080x128 .f32) (h13 : a13.IsWhole) (a14 : Memref sig .tc .vmem S64x64 .f32) (h14 : a14.IsWhole) (a15 : Memref sig .tc .vmem S64x64 .f32) (h15 : a15.IsWhole) (a16 : Memref sig .tc .vmem S64x64 .f32) (h16 : a16.IsWhole)
    (hc1 : cond1 i) (hc2 : ¬k0_cond2 i = 1#1)
    (x1 : Vec F S10000x128 .f32) (x2 : Vec F S128x128 .f32) (x3 : Vec F S1x128 .f32) (x4 : Vec F S128x64 .f32) (x5 : Vec F S1x64 .f32) (x6 : Vec F S128x128 .f32) (x7 : Vec F S1x128 .f32) (x8 : Vec F S128x64 .f32) (x9 : Vec F S1x64 .f32) (x10 : Vec F S1x288x10000 .f32) (x11 : Vec F S1x288x10000 .f32) (x13 : Vec F S10080x128 .f32) (x14 : Vec F S64x64 .f32) (x15 : Vec F S64x64 .f32) (x16 : Vec F S64x64 .f32) (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a13 fullShare x13 ∗ owns (c : Thread nD τ) a14 fullShare x14 ∗ owns (c : Thread nD τ) a15 fullShare x15 ∗ owns (c : Thread nD τ) a16 fullShare x16
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a13 fullShare (acts x1 x2 x3 x4 x5 x6 x7 x8 x9) ∗ owns (c : Thread nD τ) a14 fullShare (next14 i x10 (acts x1 x2 x3 x4 x5 x6 x7 x8 x9) k0_pay14) ∗ owns (c : Thread nD τ) a15 fullShare (next15 i x11 (acts x1 x2 x3 x4 x5 x6 x7 x8 x9) k0_pay15) ∗ owns (c : Thread nD τ) a16 fullShare (next16 i x10 x11 (acts x1 x2 x3 x4 x5 x6 x7 x8 x9) k0_pay16)) -∗ K ⟨⟩))
      ⊢ wp frame (wpE (defs₀ (F := F)) Variants.none c none) E (cc0__body i a1 h1 a2 h2 a3 h3 a4 h4 a5 h5 a6 h6 a7 h7 a8 h8 a9 h9 a10 h10 a11 h11 a12 h12 a13 h13 a14 h14 a15 h15 a16 h16) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%f14, %hf14, H14⟩, ⟨%f15, %hf15, H15⟩, ⟨%f16, %hf16, H16⟩, Hk⟩
  obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h13.eq_unread hf13; obtain rfl := h14.eq_unread hf14; obtain rfl := h15.eq_unread hf15; obtain rfl := h16.eq_unread hf16
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H13]
  · iexists _; isplitr; swap; · iexact H13
    ipureintro
    sl_unfold_words
    first
      | rw [View.read_writes_full]
        simp only [readCov64, View.readCov_eq_canon_ld _ _ _ (acts_cover _ _ _), View.readAt_eq_ld, View.read_writes_junk_eq_canon]
      | rw [View.read_writes_eq_canon _ _ _ (acts_cover _ _ _)]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  isplitl [H14]
  · iexists _; isplitr; swap; · iexact H14
    ipureintro
    sl_unfold_words
    first
      | rw [View.read_writes_full]
        simp only [readCov64, View.readCov_eq_canon_ld _ _ _ (acts_cover _ _ _), View.readAt_eq_ld, View.read_writes_junk_eq_canon]
      | rw [View.read_writes_eq_canon _ _ _ (acts_cover _ _ _)]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  isplitl [H15]
  · iexists _; isplitr; swap; · iexact H15
    ipureintro
    sl_unfold_words
    first
      | rw [View.read_writes_full]
        simp only [readCov64, View.readCov_eq_canon_ld _ _ _ (acts_cover _ _ _), View.readAt_eq_ld, View.read_writes_junk_eq_canon]
      | rw [View.read_writes_eq_canon _ _ _ (acts_cover _ _ _)]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  · iexists _; isplitr; swap; · iexact H16
    ipureintro
    sl_unfold_words
    first
      | rw [View.read_writes_full]
        simp only [readCov64, View.readCov_eq_canon_ld _ _ _ (acts_cover _ _ _), View.readAt_eq_ld, View.read_writes_junk_eq_canon]
      | rw [View.read_writes_eq_canon _ _ _ (acts_cover _ _ _)]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
set_option maxHeartbeats 4000000 in
/-- The body at the last point: the loss is stored. -/
theorem run_last (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S128x64 .f32) (h4 : a4.IsWhole) (a5 : Memref sig .tc .vmem S1x64 .f32) (h5 : a5.IsWhole) (a6 : Memref sig .tc .vmem S128x128 .f32) (h6 : a6.IsWhole) (a7 : Memref sig .tc .vmem S1x128 .f32) (h7 : a7.IsWhole) (a8 : Memref sig .tc .vmem S128x64 .f32) (h8 : a8.IsWhole) (a9 : Memref sig .tc .vmem S1x64 .f32) (h9 : a9.IsWhole) (a10 : Memref sig .tc .vmem S1x288x10000 .f32) (h10 : a10.IsWhole) (a11 : Memref sig .tc .vmem S1x288x10000 .f32) (h11 : a11.IsWhole) (a12 : Memref sig .tc .vmem S1x1 .f32) (h12 : a12.IsWhole) (a13 : Memref sig .tc .vmem S10080x128 .f32) (h13 : a13.IsWhole) (a14 : Memref sig .tc .vmem S64x64 .f32) (h14 : a14.IsWhole) (a15 : Memref sig .tc .vmem S64x64 .f32) (h15 : a15.IsWhole) (a16 : Memref sig .tc .vmem S64x64 .f32) (h16 : a16.IsWhole)
    (hc1 : ¬cond1 i) (hc2 : k0_cond2 i = 1#1)
    (x10 : Vec F S1x288x10000 .f32) (x11 : Vec F S1x288x10000 .f32) (x12 : Vec F S1x1 .f32) (x13 : Vec F S10080x128 .f32) (x14 : Vec F S64x64 .f32) (x15 : Vec F S64x64 .f32) (x16 : Vec F S64x64 .f32) (E : Set ℕ) (K : PUnit → sProp 𝕄) :
    iprop(owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16
        ∗ (iprop(owns (c : Thread nD τ) a10 fullShare x10 ∗ owns (c : Thread nD τ) a11 fullShare x11 ∗ owns (c : Thread nD τ) a12 fullShare (loss (next14 i x10 x13 x14) (next15 i x11 x13 x15) (next16 i x10 x11 x13 x16)) ∗ owns (c : Thread nD τ) a13 fullShare x13 ∗ owns (c : Thread nD τ) a14 fullShare (next14 i x10 x13 x14) ∗ owns (c : Thread nD τ) a15 fullShare (next15 i x11 x13 x15) ∗ owns (c : Thread nD τ) a16 fullShare (next16 i x10 x11 x13 x16)) -∗ K ⟨⟩))
      ⊢ wp frame (wpE (defs₀ (F := F)) Variants.none c none) E (cc0__body i a1 h1 a2 h2 a3 h3 a4 h4 a5 h5 a6 h6 a7 h7 a8 h8 a9 h9 a10 h10 a11 h11 a12 h12 a13 h13 a14 h14 a15 h15 a16 h16) K := by
  simp only [cc0__body_eq_skeleton]; unfold cc0__body_skel
  simp only [k0_part1_eq_skeleton, k0_part2_eq_skeleton, k0_part3_eq_skeleton]
  unfold owns
  iintro ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
  sl_exec (disch := first | sl_exact hc1 | sl_exact hc2)
  sl_step
  iapply Hk
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro
    sl_unfold_words
    rw [View.read_writes_full]
    simp only [readCov64]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  isplitl [H13]
  · iexists _; isplitr; · ipureintro; exact h13.read_unread _
    iexact H13
  isplitl [H14]
  · iexists _; isplitr; swap; · iexact H14
    ipureintro
    sl_unfold_words
    rw [View.read_writes_full]
    simp only [readCov64]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  isplitl [H15]
  · iexists _; isplitr; swap; · iexact H15
    ipureintro
    sl_unfold_words
    rw [View.read_writes_full]
    simp only [readCov64]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl
  · iexists _; isplitr; swap; · iexact H16
    ipureintro
    sl_unfold_words
    rw [View.read_writes_full]
    simp only [readCov64]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S64x64) hz2, View.ld_unit_zero (S := S1x288x10000) hz3, View.ld_unit_zero (S := S10000x128) hz2, View.ld_unit_zero (S := S128x128) hz2, View.ld_unit_zero (S := S128x64) hz2, View.ld_unit_zero (S := S1x128) hz2, View.ld_unit_zero (S := S1x64) hz2]
    rfl

end Cert.KernelIdeal.Body
end
-- ==== Proof.IdealMath.lean ====
/-
  What the kernel's payloads compute over the extended reals, read at an index: a masked block of a propagated
  encoder, and one point's addition to a Gram matrix.
-/
module

public import proofs.«01_k».proof.Proof.IdealBody
public import Idealize.ShloMosaic.Lib.Pointwise

@[expose] public section

set_option maxRecDepth 16384

noncomputable section

namespace Cert.KernelIdeal.Math

open Cert.KernelIdeal Cert.KernelIdeal.Gen Cert.KernelIdeal.Body
open Idealize.ShloMosaic

/-- The row mask of point `i` is set at the block's rows that lie in the array. -/
theorem mask_at (i : grid0.Coords) (j : Fin 288) (a : Fin 64) :
    k0_pay17 i (ix2 j a) = BitVec.ofBool (decide ((i 0).val * 288 + j.val < 10000)) := by
  have hi : (i 0).val < 35 := (i 0).isLt
  have hj := j.isLt
  pointwise [k0_pay17]
  generalize (i 0).val = n at *
  show BitVec.ofBool (BitVec.slt (BitVec.ofNat 32 j.val + BitVec.ofNat 32 n * 288#32) 10000#32) = _
  have e : BitVec.ofNat 32 j.val + BitVec.ofNat 32 n * 288#32 = BitVec.ofNat 32 (n * 288 + j.val) := by
    apply BitVec.eq_of_toNat_eq
    simp only [BitVec.toNat_add, BitVec.toNat_mul, BitVec.toNat_ofNat]
    omega
  have e1 : (BitVec.ofNat 32 (n * 288 + j.val)).toInt = ((n * 288 + j.val : ℕ) : ℤ) := by
    rw [BitVec.toInt_eq_toNat_cond, BitVec.toNat_ofNat, Nat.mod_eq_of_lt (by omega), if_pos (by omega)]
  have e2 : (10000#32 : BitVec 32).toInt = 10000 := by decide
  rw [e, BitVec.slt_eq_decide, e1, e2]
  have e3 : (((n * 288 + j.val : ℕ) : ℤ) < 10000) ↔ (n * 288 + j.val < 10000) := by omega
  simp only [e3]

/-- A propagated encoder's masked block at an index: the row's product with the encoder, zero past the array's end. -/
theorem pay18_at (i : grid0.Coords) (x : Vec Ideal S1x288x10000 .f32) (H : Vec Ideal S10000x64 .f32) (j : Fin 288) (a : Fin 64) :
    k0_pay18 i x H (ix2 j a) = if (i 0).val * 288 + j.val < 10000 then ∑ k : Fin 10000, x (ix3 0 j k) * H (ix2 k a) else (0 : EReal) := by
  pointwise [k0_pay18]
  rw [mask_at]
  by_cases h : (i 0).val * 288 + j.val < 10000
  · rw [if_pos h, decide_eq_true h]; rfl
  · rw [if_neg h, decide_eq_false h]; rfl

theorem pay19_eq (i : grid0.Coords) (x : Vec Ideal S1x288x10000 .f32) (H : Vec Ideal S10000x64 .f32) : k0_pay19 i x H = k0_pay18 i x H := rfl
theorem pay5_eq (x : Vec Ideal S10000x128 .f32) (w : Vec Ideal S128x128 .f32) (b : Vec Ideal S1x128 .f32) (w' : Vec Ideal S128x64 .f32)
    (b' : Vec Ideal S1x64 .f32) : k0_pay11 (k0_pay5 x w b w' b') = k0_pay4 x w b w' b' := rfl

/-- One point's addition to the first Gram matrix. -/
theorem pay21_at (i : grid0.Coords) (x : Vec Ideal S1x288x10000 .f32) (H : Vec Ideal S10000x64 .f32) (b : Vec Ideal S288x128 .f32)
    (z : Vec Ideal S64x64 .f32) (a c : Fin 64) :
    k0_pay21 i x H b z (ix2 a c) = z (ix2 a c) + ∑ j : Fin 288, k0_pay18 i x H (ix2 j a) * b (ix2 j ⟨c.val, by omega⟩) := by
  pointwise [k0_pay21]
/-- One point's addition to the second Gram matrix. -/
theorem pay1_at (p : Vec Ideal S288x64 .f32) (b : Vec Ideal S288x128 .f32)
    (z : Vec Ideal S64x64 .f32) (a c : Fin 64) :
    k0_pay1 p (k0_pay20 b) z (ix2 a c) = z (ix2 a c) + ∑ j : Fin 288, p (ix2 j a) * b (ix2 j ⟨64 + c.val, by omega⟩) := by
  pointwise [k0_pay1, k0_pay20]
/-- One point's addition to the cross Gram matrix. -/
theorem pay2_at (p q : Vec Ideal S288x64 .f32)
    (z : Vec Ideal S64x64 .f32) (a c : Fin 64) :
    k0_pay2 p q z (ix2 a c) = z (ix2 a c) + ∑ j : Fin 288, p (ix2 j a) * q (ix2 j c) := by
  pointwise [k0_pay2]
theorem zero_at (a c : Fin 64) : k0_pay14 (F := Ideal) (ix2 a c) = (0 : EReal) := by
  pointwise [k0_pay14, k0_pay13]

/-- An encoder at an index. -/
theorem enc_at (x : Vec Ideal S10000x128 .f32) (w : Vec Ideal S128x128 .f32) (b : Vec Ideal S1x128 .f32) (w' : Vec Ideal S128x64 .f32)
    (b' : Vec Ideal S1x64 .f32) (r : Fin 10000) (a : Fin 64) :
    k0_pay4 x w b w' b' (ix2 r a) = (∑ k : Fin 128, max ((∑ l : Fin 128, x (ix2 r l) * w (ix2 l k)) + b (ix2 0 k)) 0 * w' (ix2 k a)) + b' (ix2 0 a) := by
  pointwise [k0_pay4]

/-- The sum of the products of two matrices' rows below `n`, at a pair of columns. -/
def gramSum (P Q : Fin 10000 → Fin 64 → EReal) (n : ℕ) (a c : Fin 64) : EReal :=
  ∑ r ∈ Finset.range n, if h : r < 10000 then P ⟨r, h⟩ a * Q ⟨r, h⟩ c else 0

theorem gramSum_zero (P Q : Fin 10000 → Fin 64 → EReal) (a c : Fin 64) : gramSum P Q 0 a c = 0 := by
  unfold gramSum; rw [Finset.range_zero, Finset.sum_empty]

/-- One more block of 288 rows. -/
theorem gramSum_add (P Q : Fin 10000 → Fin 64 → EReal) (n : ℕ) (a c : Fin 64) :
    gramSum P Q (n + 288) a c = gramSum P Q n a c + ∑ j : Fin 288, if h : n + j.val < 10000 then P ⟨n + j.val, h⟩ a * Q ⟨n + j.val, h⟩ c else 0 := by
  unfold gramSum
  rw [Finset.sum_range_add, Finset.sum_range (fun x => if h : n + x < 10000 then P ⟨n + x, h⟩ a * Q ⟨n + x, h⟩ c else 0)]

/-- All 35 blocks: the sum over every row. -/
theorem gramSum_all (P Q : Fin 10000 → Fin 64 → EReal) (a c : Fin 64) :
    gramSum P Q 10080 a c = ∑ r : Fin 10000, P r a * Q r c := by
  unfold gramSum
  rw [show (10080 : ℕ) = 10000 + 80 from rfl, Finset.sum_range_add, Finset.sum_range]
  rw [Finset.sum_eq_zero (s := Finset.range 80) (fun x _ => by rw [dif_neg (by omega)]), add_zero]
  exact Finset.sum_congr rfl fun r _ => by rw [dif_pos r.isLt]

/-- The Gram matrix of the rows below `n`, as a block. -/
def gram (P Q : Fin 10000 → Fin 64 → EReal) (n : ℕ) : Vec Ideal S64x64 .f32 := fun y => gramSum P Q n (y 0) (y 1)

theorem gram_at (P Q : Fin 10000 → Fin 64 → EReal) (n : ℕ) (a c : Fin 64) : gram P Q n (ix2 a c) = gramSum P Q n a c := rfl

/-- The zero accumulators are the Gram matrix of no row. -/
theorem gram_zero (P Q : Fin 10000 → Fin 64 → EReal) : (k0_pay14 (F := Ideal)) = gram P Q 0 := by
  funext y
  obtain ⟨a, c, rfl⟩ : ∃ (a c : Fin 64), y = ix2 a c := ⟨y 0, y 1, eq_ix2 y⟩
  rw [gram_at, gramSum_zero]; exact zero_at _ _

section Acts
variable {F : FTy → Type} [FloatOps F]
variable (x1 : Vec F S10000x128 .f32) (x2 : Vec F S128x128 .f32) (x3 : Vec F S1x128 .f32) (x4 : Vec F S128x64 .f32) (x5 : Vec F S1x64 .f32)
    (x6 : Vec F S128x128 .f32) (x7 : Vec F S1x128 .f32) (x8 : Vec F S128x64 .f32) (x9 : Vec F S1x64 .f32)

/-- The second encoder's columns of the stored activations. -/
theorem acts_right : View.ld (acts x1 x2 x3 x4 x5 x6 x7 x8 x9) rR = k0_pay11 (k0_pay5 x1 x6 x7 x8 x9) := by
  funext y
  show acts x1 x2 x3 x4 x5 x6 x7 x8 x9 (rR.emb y) = _
  unfold acts
  rw [View.canon_cons_of_not_mem _ _ (by
    rw [Rect.mem_set_unit]; intro h
    have h0 := (h 0).1
    have h1 : ((rR.emb y 0 : Fin _) : ℕ) = 0 + 1 * (y 0).val := rfl
    have h2 : (y 0).val < 10000 := (y 0).isLt
    have h3 : 10000 ≤ ((rR.emb y 0 : Fin _) : ℕ) := h0
    omega)]
  exact View.canon_cons_emb rR _ _ y

/-- The first encoder's columns of the stored activations. -/
theorem acts_left : View.ld (acts x1 x2 x3 x4 x5 x6 x7 x8 x9) rL = k0_pay4 x1 x2 x3 x4 x5 := by
  funext y
  show acts x1 x2 x3 x4 x5 x6 x7 x8 x9 (rL.emb y) = _
  unfold acts
  rw [View.canon_cons_of_not_mem _ _ (by
    rw [Rect.mem_set_unit]; intro h
    have h0 := (h 0).1
    have h1 : ((rL.emb y 0 : Fin _) : ℕ) = 0 + 1 * (y 0).val := rfl
    have h2 : (y 0).val < 10000 := (y 0).isLt
    have h3 : 10000 ≤ ((rL.emb y 0 : Fin _) : ℕ) := h0
    omega), View.canon_cons_of_not_mem _ _ (by
    rw [Rect.mem_set_unit]; intro h
    have h0 := (h 1).1
    have h1 : ((rL.emb y 1 : Fin _) : ℕ) = 0 + 1 * (y 1).val := rfl
    have h2 : (y 1).val < 64 := (y 1).isLt
    have h3 : 64 ≤ ((rL.emb y 1 : Fin _) : ℕ) := h0
    omega)]
  exact View.canon_cons_emb rL _ _ y

theorem off1_eq (i : grid0.Coords) : k0_off1 i = ![(i 0).val * 288, 0] := by
  have hi : (i 0).val < 35 := (i 0).isLt
  unfold k0_off1
  generalize (i 0).val = n at *
  have e : (Scalar.indexCast (Scalar.muli (BitVec.ofNat 32 n) 288#32)).toNat = n * 288 := by
    show (BitVec.ofNat 32 n * 288#32).toNat = _
    simp only [BitVec.toNat_mul, BitVec.toNat_ofNat]
    omega
  show ![(Scalar.indexCast (Scalar.muli (BitVec.ofNat 32 n) 288#32)).toNat, 0] = _
  rw [e]

/-- A point's rows of the stored activations, in the first encoder's columns. -/
theorem acts_row_left (i : grid0.Coords) (j : Fin 288) (c : Fin 64) (h : (i 0).val * 288 + j.val < 10000) :
    View.ld (acts x1 x2 x3 x4 x5 x6 x7 x8 x9) (rB i) (ix2 j ⟨c.val, by omega⟩) = k0_pay4 x1 x2 x3 x4 x5 (ix2 ⟨(i 0).val * 288 + j.val, h⟩ c) := by
  rw [← acts_left x1 x2 x3 x4 x5 x6 x7 x8 x9]
  show acts x1 x2 x3 x4 x5 x6 x7 x8 x9 ((rB i).emb _) = acts x1 x2 x3 x4 x5 x6 x7 x8 x9 (rL.emb _)
  congr 1
  funext a
  apply Fin.ext
  match a with
  | ⟨0, _⟩ => show k0_off1 i 0 + 1 * j.val = 0 + 1 * ((i 0).val * 288 + j.val); rw [off1_eq]; show (i 0).val * 288 + _ = _; omega
  | ⟨1, _⟩ => show k0_off1 i 1 + 1 * c.val = 0 + 1 * c.val; rw [off1_eq]; rfl

/-- A point's rows of the stored activations, in the second encoder's columns. -/
theorem acts_row_right (i : grid0.Coords) (j : Fin 288) (c : Fin 64) (h : (i 0).val * 288 + j.val < 10000) :
    View.ld (acts x1 x2 x3 x4 x5 x6 x7 x8 x9) (rB i) (ix2 j ⟨64 + c.val, by omega⟩) = k0_pay11 (k0_pay5 x1 x6 x7 x8 x9) (ix2 ⟨(i 0).val * 288 + j.val, h⟩ c) := by
  rw [← acts_right x1 x2 x3 x4 x5 x6 x7 x8 x9]
  show acts x1 x2 x3 x4 x5 x6 x7 x8 x9 ((rB i).emb _) = acts x1 x2 x3 x4 x5 x6 x7 x8 x9 (rR.emb _)
  congr 1
  funext a
  apply Fin.ext
  match a with
  | ⟨0, _⟩ => show k0_off1 i 0 + 1 * j.val = 0 + 1 * ((i 0).val * 288 + j.val); rw [off1_eq]; show (i 0).val * 288 + _ = _; omega
  | ⟨1, _⟩ => show k0_off1 i 1 + 1 * (64 + c.val) = 64 + 1 * c.val; rw [off1_eq]; show 0 + _ = _; omega
end Acts

/-- An encoder's output by row and column. -/
def enc (x : Vec Ideal S10000x128 .f32) (w : Vec Ideal S128x128 .f32) (b : Vec Ideal S1x128 .f32) (w' : Vec Ideal S128x64 .f32)
    (b' : Vec Ideal S1x64 .f32) (r : Fin 10000) (a : Fin 64) : EReal := k0_pay4 x w b w' b' (ix2 r a)

/-- An adjacency matrix times an encoder's output, by row and column. -/
def prop (A : Fin 10000 → Fin 10000 → EReal) (H : Fin 10000 → Fin 64 → EReal) (r : Fin 10000) (a : Fin 64) : EReal :=
  ∑ k : Fin 10000, A r k * H k a

section Step
variable (x1 : Vec Ideal S10000x128 .f32) (x2 : Vec Ideal S128x128 .f32) (x3 : Vec Ideal S1x128 .f32) (x4 : Vec Ideal S128x64 .f32) (x5 : Vec Ideal S1x64 .f32)
    (x6 : Vec Ideal S128x128 .f32) (x7 : Vec Ideal S1x128 .f32) (x8 : Vec Ideal S128x64 .f32) (x9 : Vec Ideal S1x64 .f32)

/-- A block of a propagated encoder, its rows past the array's end at zero whatever the block holds there. -/
theorem pay18_prop (i : grid0.Coords) (x : Vec Ideal S1x288x10000 .f32) (A : Fin 10000 → Fin 10000 → EReal)
    (hx : ∀ (j : Fin 288) (k : Fin 10000) (h : (i 0).val * 288 + j.val < 10000), x (ix3 0 j k) = A ⟨(i 0).val * 288 + j.val, h⟩ k)
    (H : Vec Ideal S10000x64 .f32) (j : Fin 288) (a : Fin 64) :
    k0_pay18 i x H (ix2 j a) = if h : (i 0).val * 288 + j.val < 10000 then prop A (fun r b => H (ix2 r b)) ⟨(i 0).val * 288 + j.val, h⟩ a else 0 := by
  rw [pay18_at]
  by_cases h : (i 0).val * 288 + j.val < 10000
  · rw [if_pos h, dif_pos h]
    exact Finset.sum_congr rfl fun k _ => by rw [hx j k h]
  · rw [if_neg h, dif_neg h]

/-- The first accumulator after a point that found the Gram matrix of the rows before its block. -/
theorem next14_gram (i : grid0.Coords) (x : Vec Ideal S1x288x10000 .f32) (A : Fin 10000 → Fin 10000 → EReal)
    (hx : ∀ (j : Fin 288) (k : Fin 10000) (h : (i 0).val * 288 + j.val < 10000), x (ix3 0 j k) = A ⟨(i 0).val * 288 + j.val, h⟩ k) :
    next14 i x (acts x1 x2 x3 x4 x5 x6 x7 x8 x9) (gram (prop A (enc x1 x2 x3 x4 x5)) (enc x1 x2 x3 x4 x5) ((i 0).val * 288))
      = gram (prop A (enc x1 x2 x3 x4 x5)) (enc x1 x2 x3 x4 x5) ((i 0).val * 288 + 288) := by
  funext y
  obtain ⟨a, c, rfl⟩ : ∃ (a c : Fin 64), y = ix2 a c := ⟨y 0, y 1, eq_ix2 y⟩
  rw [next14, pay21_at, gram_at, gram_at, gramSum_add]
  congr 1
  refine Finset.sum_congr rfl fun j _ => ?_
  rw [pay18_prop i x A hx, acts_left]
  by_cases h : (i 0).val * 288 + j.val < 10000
  · rw [dif_pos h, dif_pos h, acts_row_left x1 x2 x3 x4 x5 x6 x7 x8 x9 i j c h]; rfl
  · rw [dif_neg h, dif_neg h, zero_mul]

/-- The second accumulator, likewise. -/
theorem next15_gram (i : grid0.Coords) (x : Vec Ideal S1x288x10000 .f32) (A : Fin 10000 → Fin 10000 → EReal)
    (hx : ∀ (j : Fin 288) (k : Fin 10000) (h : (i 0).val * 288 + j.val < 10000), x (ix3 0 j k) = A ⟨(i 0).val * 288 + j.val, h⟩ k) :
    next15 i x (acts x1 x2 x3 x4 x5 x6 x7 x8 x9) (gram (prop A (enc x1 x6 x7 x8 x9)) (enc x1 x6 x7 x8 x9) ((i 0).val * 288))
      = gram (prop A (enc x1 x6 x7 x8 x9)) (enc x1 x6 x7 x8 x9) ((i 0).val * 288 + 288) := by
  funext y
  obtain ⟨a, c, rfl⟩ : ∃ (a c : Fin 64), y = ix2 a c := ⟨y 0, y 1, eq_ix2 y⟩
  rw [next15, pay1_at, gram_at, gram_at, gramSum_add]
  congr 1
  refine Finset.sum_congr rfl fun j _ => ?_
  rw [pay19_eq, pay18_prop i x A hx, acts_right, pay5_eq]
  by_cases h : (i 0).val * 288 + j.val < 10000
  · rw [dif_pos h, dif_pos h, acts_row_right x1 x2 x3 x4 x5 x6 x7 x8 x9 i j c h, pay5_eq]; rfl
  · rw [dif_neg h, dif_neg h, zero_mul]

/-- The cross accumulator, of the two propagated encoders. -/
theorem next16_gram (i : grid0.Coords) (x x' : Vec Ideal S1x288x10000 .f32) (A A' : Fin 10000 → Fin 10000 → EReal)
    (hx : ∀ (j : Fin 288) (k : Fin 10000) (h : (i 0).val * 288 + j.val < 10000), x (ix3 0 j k) = A ⟨(i 0).val * 288 + j.val, h⟩ k)
    (hx' : ∀ (j : Fin 288) (k : Fin 10000) (h : (i 0).val * 288 + j.val < 10000), x' (ix3 0 j k) = A' ⟨(i 0).val * 288 + j.val, h⟩ k) :
    next16 i x x' (acts x1 x2 x3 x4 x5 x6 x7 x8 x9) (gram (prop A (enc x1 x2 x3 x4 x5)) (prop A' (enc x1 x6 x7 x8 x9)) ((i 0).val * 288))
      = gram (prop A (enc x1 x2 x3 x4 x5)) (prop A' (enc x1 x6 x7 x8 x9)) ((i 0).val * 288 + 288) := by
  funext y
  obtain ⟨a, c, rfl⟩ : ∃ (a c : Fin 64), y = ix2 a c := ⟨y 0, y 1, eq_ix2 y⟩
  rw [next16, pay2_at, gram_at, gram_at, gramSum_add]
  congr 1
  refine Finset.sum_congr rfl fun j _ => ?_
  rw [pay19_eq, pay18_prop i x A hx, pay18_prop i x' A' hx', acts_left, acts_right, pay5_eq]
  by_cases h : (i 0).val * 288 + j.val < 10000
  · rw [dif_pos h, dif_pos h, dif_pos h]; rfl
  · rw [dif_neg h, dif_neg h, dif_neg h, zero_mul]
end Step

/-- One term of the loss of a 64 by 64 matrix: its diagonal's squared distance from one, plus the weight times the
    sum of the squares off the diagonal. -/
def lossOf (g : Fin 64 → Fin 64 → EReal) : EReal :=
  (∑ a, (g a a - 1) * (g a a - 1)) + Ideal.ofBits .f32 0x3A83126F#32 * ((∑ a, ∑ c, g a c * g a c) - ∑ a, g a a * g a a)

theorem sel_diag (f : Fin 64 → Fin 64 → EReal) :
    (∑ a, ∑ c, Scalar.select (IntOp.cmpi CmpIPredicate.eq (BitVec.ofNat 32 a.val) (BitVec.ofNat 32 c.val)) (f a c) 0) = ∑ a, f a a := by
  refine Finset.sum_congr rfl fun a _ => ?_
  rw [Finset.sum_eq_single a]
  · show Scalar.select (BitVec.ofBool (BitVec.ofNat 32 a.val == BitVec.ofNat 32 a.val)) _ _ = _
    rw [beq_self_eq_true]; rfl
  · intro c _ hc
    have h : (BitVec.ofNat 32 a.val == BitVec.ofNat 32 c.val) = false := by
      rw [beq_eq_false_iff_ne]; intro h
      have := congrArg BitVec.toNat h
      rw [BitVec.toNat_ofNat, BitVec.toNat_ofNat] at this
      have := a.isLt; have := c.isLt
      exact hc (Fin.ext (by omega))
    show Scalar.select (BitVec.ofBool (BitVec.ofNat 32 a.val == BitVec.ofNat 32 c.val)) _ _ = _
    rw [h]; rfl
  · intro h; exact absurd (Finset.mem_univ _) h

/-- The stored loss. -/
theorem loss_at (x y z : Vec Ideal S64x64 .f32) : loss x y z (ix2 0 0)
    = lossOf (fun a c => x (ix2 a c)) + lossOf (fun a c => y (ix2 a c)) + lossOf (fun a c => z (ix2 a c)) := by
  pointwise [loss, k0_pay3, k0_pay6, k0_pay7, k0_pay8, k0_pay9, k0_pay10]
  unfold lossOf
  simp only [sel_diag]

end Cert.KernelIdeal.Math
end
-- ==== Proof.IdealRun.lean ====
/-
  The run of `KernelIdeal` over the extended reals: the scratch buffers tracked from point to point as the stored
  activations and three partial Gram matrices, and the results of @main at what the last point stores.
-/
module

public import proofs.«01_k».proof.Proof.IdealMath
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Cert.KernelIdeal.Body Cert.KernelIdeal.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The first branch is taken at the first point and nowhere else. -/
theorem cond1_iff : ∀ t : Fin grid0.N, cond1 (grid0.coords t) ↔ t.val = 0 := by decide +kernel
/-- The second branch is taken at the last point and nowhere else. -/
theorem cond2_iff : ∀ t : Fin grid0.N, k0_cond2 (grid0.coords t) = 1#1 ↔ t.val = 34 := by decide +kernel

/-- The windows' block indices: the whole-array windows stay, the adjacency windows move along the rows. -/
theorem idx_eq : ∀ t : Fin grid0.N, (win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0])
    ∧ win0_9.index t = ![0, (grid0.coords t 0).val, 0] ∧ win0_10.index t = ![1, (grid0.coords t 0).val, 0] := by decide +kernel

/-- A point's grid coordinate is its number. -/
theorem coords_val : ∀ t : Fin grid0.N, (grid0.coords t 0).val = t.val := by decide +kernel

/-- The whole-array blocks, by name: the features, then each encoder's weights and biases. -/
def x1 (c : Dev nD) : Vec Ideal S10000x128 .f32 := V m c main_arg0
def x2 (c : Dev nD) : Vec Ideal S128x128 .f32 := V m c main_arg2
def x3 (c : Dev nD) : Vec Ideal S1x128 .f32 := V m c main_v0
def x4 (c : Dev nD) : Vec Ideal S128x64 .f32 := V m c main_arg4
def x5 (c : Dev nD) : Vec Ideal S1x64 .f32 := V m c main_v1
def x6 (c : Dev nD) : Vec Ideal S128x128 .f32 := V m c main_arg6
def x7 (c : Dev nD) : Vec Ideal S1x128 .f32 := V m c main_v2
def x8 (c : Dev nD) : Vec Ideal S128x64 .f32 := V m c main_arg8
def x9 (c : Dev nD) : Vec Ideal S1x64 .f32 := V m c main_v3

theorem iblk_0 (c : Dev nD) (t : Fin cfg0.N) : iblk m c 0 t = x1 m c := by
  funext y; unfold x1; blk_ext! [iblk, idx_eq t]
theorem iblk_1 (c : Dev nD) (t : Fin cfg0.N) : iblk m c 1 t = x2 m c := by
  funext y; unfold x2; blk_ext! [iblk, idx_eq t]
theorem iblk_2 (c : Dev nD) (t : Fin cfg0.N) : iblk m c 2 t = x3 m c := by
  funext y; unfold x3; blk_ext! [iblk, idx_eq t]
theorem iblk_3 (c : Dev nD) (t : Fin cfg0.N) : iblk m c 3 t = x4 m c := by
  funext y; unfold x4; blk_ext! [iblk, idx_eq t]
theorem iblk_4 (c : Dev nD) (t : Fin cfg0.N) : iblk m c 4 t = x5 m c := by
  funext y; unfold x5; blk_ext! [iblk, idx_eq t]
theorem iblk_5 (c : Dev nD) (t : Fin cfg0.N) : iblk m c 5 t = x6 m c := by
  funext y; unfold x6; blk_ext! [iblk, idx_eq t]
theorem iblk_6 (c : Dev nD) (t : Fin cfg0.N) : iblk m c 6 t = x7 m c := by
  funext y; unfold x7; blk_ext! [iblk, idx_eq t]
theorem iblk_7 (c : Dev nD) (t : Fin cfg0.N) : iblk m c 7 t = x8 m c := by
  funext y; unfold x8; blk_ext! [iblk, idx_eq t]
theorem iblk_8 (c : Dev nD) (t : Fin cfg0.N) : iblk m c 8 t = x9 m c := by
  funext y; unfold x9; blk_ext! [iblk, idx_eq t]

/-- The two adjacency matrices. -/
def adjL (c : Dev nD) (r k : Fin 10000) : EReal := V m c main_arg1 (ix3 0 r k)
def adjR (c : Dev nD) (r k : Fin 10000) : EReal := V m c main_arg1 (ix3 1 r k)

/-- How much of an adjacency block lies in the array. -/
theorem xsize_eq : ∀ t : Fin grid0.N, win0_9.xsize (grid0.coords t) = ![1, min 288 (10000 - (grid0.coords t 0).val * 288), 10000]
    ∧ win0_10.xsize (grid0.coords t) = ![1, min 288 (10000 - (grid0.coords t 0).val * 288), 10000] := by decide +kernel

theorem fill9_at (c : Dev nD) (t : Fin cfg0.N) (d : S1x288x10000.Idx → Elt Ideal .f32) (j : Fin 288) (k : Fin 10000)
    (h : (grid0.coords t 0).val * 288 + j.val < 10000) :
    win0_9.fill (grid0.coords t) d (iblk m c 9 t) (ix3 0 j k) = adjL m c ⟨(grid0.coords t 0).val * 288 + j.val, h⟩ k := by
  have hm : win0_9.moved (grid0.coords t) (ix3 0 j k) = true := by
    rw [Window.moved_iff, (xsize_eq t).1]
    intro a
    match a with
    | ⟨0, _⟩ => exact Nat.zero_lt_one
    | ⟨1, _⟩ => show j.val < min 288 (10000 - (grid0.coords t 0).val * 288); have := j.isLt; omega
    | ⟨2, _⟩ => exact k.isLt
  unfold Window.fill
  rw [dif_pos hm]
  unfold adjL
  blk_ext! [iblk, idx_eq t]

theorem fill10_at (c : Dev nD) (t : Fin cfg0.N) (d : S1x288x10000.Idx → Elt Ideal .f32) (j : Fin 288) (k : Fin 10000)
    (h : (grid0.coords t 0).val * 288 + j.val < 10000) :
    win0_10.fill (grid0.coords t) d (iblk m c 10 t) (ix3 0 j k) = adjR m c ⟨(grid0.coords t 0).val * 288 + j.val, h⟩ k := by
  have hm : win0_10.moved (grid0.coords t) (ix3 0 j k) = true := by
    rw [Window.moved_iff, (xsize_eq t).2]
    intro a
    match a with
    | ⟨0, _⟩ => exact Nat.zero_lt_one
    | ⟨1, _⟩ => show j.val < min 288 (10000 - (grid0.coords t 0).val * 288); have := j.isLt; omega
    | ⟨2, _⟩ => exact k.isLt
  unfold Window.fill
  rw [dif_pos hm]
  unfold adjR
  blk_ext! [iblk, idx_eq t]

/-- What the scratch buffers hold once the first point has run: the activations, and the Gram matrices of the rows
    below `n`. -/
abbrev actsOf (c : Dev nD) : Vec Ideal S10080x128 .f32 := acts (x1 m c) (x2 m c) (x3 m c) (x4 m c) (x5 m c) (x6 m c) (x7 m c) (x8 m c) (x9 m c)
abbrev encL (c : Dev nD) : Fin 10000 → Fin 64 → EReal := enc (x1 m c) (x2 m c) (x3 m c) (x4 m c) (x5 m c)
abbrev encR (c : Dev nD) : Fin 10000 → Fin 64 → EReal := enc (x1 m c) (x6 m c) (x7 m c) (x8 m c) (x9 m c)
def gramL (c : Dev nD) (n : ℕ) : Vec Ideal S64x64 .f32 := gram (prop (adjL m c) (encL m c)) (encL m c) n
def gramR (c : Dev nD) (n : ℕ) : Vec Ideal S64x64 .f32 := gram (prop (adjR m c) (encR m c)) (encR m c) n
def gramX (c : Dev nD) (n : ℕ) : Vec Ideal S64x64 .f32 := gram (prop (adjL m c) (encL m c)) (prop (adjR m c) (encR m c)) n

theorem stepL (c : Dev nD) (t : Fin cfg0.N) (d : S1x288x10000.Idx → Elt Ideal .f32) :
    next14 (grid0.coords t) (win0_9.fill (grid0.coords t) d (iblk m c 9 t)) (actsOf m c) (gramL m c (t.val * 288)) = gramL m c ((t.val + 1) * 288) := by
  rw [Nat.succ_mul, ← coords_val t]
  exact next14_gram _ _ _ _ _ _ _ _ _ _ _ _ (fill9_at m c t d)
theorem stepR (c : Dev nD) (t : Fin cfg0.N) (d : S1x288x10000.Idx → Elt Ideal .f32) :
    next15 (grid0.coords t) (win0_10.fill (grid0.coords t) d (iblk m c 10 t)) (actsOf m c) (gramR m c (t.val * 288)) = gramR m c ((t.val + 1) * 288) := by
  rw [Nat.succ_mul, ← coords_val t]
  exact next15_gram _ _ _ _ _ _ _ _ _ _ _ _ (fill10_at m c t d)
theorem stepX (c : Dev nD) (t : Fin cfg0.N) (d d' : S1x288x10000.Idx → Elt Ideal .f32) :
    next16 (grid0.coords t) (win0_9.fill (grid0.coords t) d (iblk m c 9 t)) (win0_10.fill (grid0.coords t) d' (iblk m c 10 t)) (actsOf m c) (gramX m c (t.val * 288))
      = gramX m c ((t.val + 1) * 288) := by
  rw [Nat.succ_mul, ← coords_val t]
  exact next16_gram _ _ _ _ _ _ _ _ _ _ _ _ _ _ (fill9_at m c t d) (fill10_at m c t d')

theorem gramL_zero (c : Dev nD) : gramL m c 0 = k0_pay14 (F := Ideal) := (gram_zero _ _).symm
theorem gramR_zero (c : Dev nD) : gramR m c 0 = k0_pay15 (F := Ideal) := (gram_zero _ _).symm
theorem gramX_zero (c : Dev nD) : gramX m c 0 = k0_pay16 (F := Ideal) := (gram_zero _ _).symm

/-- The loss the last point stores. -/
def out (c : Dev nD) : Vec Ideal S1x1 .f32 := loss (gramL m c 10080) (gramR m c 10080) (gramX m c 10080)

/-- The scratch buffers once the first point has run. -/
abbrev tracked (c : Dev nD) (n : ℕ) : sProp 𝕄 :=
  iprop(owns (c : Thread nD τ) (Memref.whole cc0_scratch0) fullShare (actsOf m c)
    ∗ owns (c : Thread nD τ) (Memref.whole cc0_scratch1) fullShare (gramL m c n)
    ∗ owns (c : Thread nD τ) (Memref.whole cc0_scratch2) fullShare (gramR m c n)
    ∗ owns (c : Thread nD τ) (Memref.whole cc0_scratch3) fullShare (gramX m c n))

/-- The loop's invariant before point `t`: nothing is known of the scratch buffers before the first. -/
def inv (c : Dev nD) (t : ℕ) : sProp 𝕄 :=
  if t = 0 then Pipeline.ΦA spec0 c else iprop(tracked m c (t * 288) ∗ ∃ r, prngReg c r)

/-- The adjacency blocks as fetched, past the array's end a word nothing reads. -/
def adj0 (c : Dev nD) (t : Fin cfg0.N) : S1x288x10000.Idx → Elt Ideal .f32 :=
  win0_9.fill (grid0.coords t) (fun _ => (Scalar.ofBits .f32 0#32 : Ideal .f32)) (iblk m c 9 t)
def adj1 (c : Dev nD) (t : Fin cfg0.N) : S1x288x10000.Idx → Elt Ideal .f32 :=
  win0_10.fill (grid0.coords t) (fun _ => (Scalar.ofBits .f32 0#32 : Ideal .f32)) (iblk m c 10 t)

/-- The proof data: the inputs' buffers keep their blocks, the result's buffer holds the loss once stored. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => adj0 m c t
    | ⟨10, _⟩ => adj1 m c t
    | ⟨11, _⟩ => out m c
  Φ t := inv m c t.val
  q w := Pipeline.shareOf spec0 w
  owed _ := 0

theorem before_9 (c : Dev nD) (t : Fin cfg0.N) (d) :
    (dats m 0 c).before 9 t d = win0_9.fill (grid0.coords t) d (iblk m c 9 t) := by
  unfold Dat.before; rw [if_pos (fetch0_9 t)]; rfl
theorem before_10 (c : Dev nD) (t : Fin cfg0.N) (d) :
    (dats m 0 c).before 10 t d = win0_10.fill (grid0.coords t) d (iblk m c 10 t) := by
  unfold Dat.before; rw [if_pos (fetch0_10 t)]; rfl

theorem defs₀_row (t : Fin cfg0.N) : defs₀ (F := Ideal) .tc cfg0.body (cfg0.bodyArgs t (cfg0.slots t)) = bodyAt0 t := by
  unfold defs₀; rw [Defs.onTc_tc]

/-- The inputs' staging buffers at a point: the fetched blocks, which the body leaves as found. -/
abbrev held (c : Dev nD) (t : Fin cfg0.N) (d9 d10 : S1x288x10000.Idx → Elt Ideal .f32) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (win0_9.fill (grid0.coords t) d9 (iblk m c 9 t))
    ∗ owns (c : Thread nD τ) (win0_10.stage (cfg0.slots t 10)) fullShare (win0_10.fill (grid0.coords t) d10 (iblk m c 10 t)))

/-- The scratch buffers, each owned whole at some contents. -/
theorem scoped_eq (c : Dev nD) : (Pipeline.scopedRest (Ix := Unit) (Name := ℕ) (U := UR sig nD τ) (Lvl := ℕ) (Val := Elt Ideal) spec0 c : sProp 𝕄)
    = iprop((∃ f : Vec Ideal S10080x128 .f32, owns (c : Thread nD τ) (Memref.whole cc0_scratch0) fullShare f)
      ∗ (∃ f : Vec Ideal S64x64 .f32, owns (c : Thread nD τ) (Memref.whole cc0_scratch1) fullShare f)
      ∗ (∃ f : Vec Ideal S64x64 .f32, owns (c : Thread nD τ) (Memref.whole cc0_scratch2) fullShare f)
      ∗ (∃ f : Vec Ideal S64x64 .f32, owns (c : Thread nD τ) (Memref.whole cc0_scratch3) fullShare f)) := by
  rw [scopedRest0_eq]; simp only [owns_whole]; rfl

/-- The first point. -/
theorem body_first (c : Dev nD) (t : Fin cfg0.N) (ht0 : t.val = 0) (d9 d10 : S1x288x10000.Idx → Elt Ideal .f32) (K : PUnit → sProp 𝕄) :
    iprop((inv m c t.val ∗ held m c t d9 d10) ∗ (inv m c (t.val + 1) ∗ held m c t d9 d10 -∗ K ⟨⟩))
      ⊢ wp frame (wpE (defs₀ (F := Ideal)) Variants.none c none) Set.univ (bodyAt0 t) K := by
  unfold inv
  rw [if_pos ht0, if_neg (Nat.succ_ne_zero _)]
  unfold held Pipeline.ΦA tracked
  rw [scoped_eq]
  iintro ⟨⟨⟨⟨⟨%f0, S0⟩, ⟨%f1, S1⟩, ⟨%f2, S2⟩, ⟨%f3, S3⟩⟩, Hg⟩, H0, H1, H2, H3, H4, H5, H6, H7, H8, H9, H10⟩, Hk⟩
  have e0 : acts (iblk m c 0 t) (iblk m c 1 t) (iblk m c 2 t) (iblk m c 3 t) (iblk m c 4 t) (iblk m c 5 t) (iblk m c 6 t) (iblk m c 7 t) (iblk m c 8 t) = actsOf m c := by
    rw [iblk_0, iblk_1, iblk_2, iblk_3, iblk_4, iblk_5, iblk_6, iblk_7, iblk_8]
  have z : t.val * 288 = 0 := by rw [ht0, Nat.zero_mul]
  have eL := stepL m c t d9
  have eR := stepR m c t d10
  have eX := stepX m c t d9 d10
  rw [z, gramL_zero, ← e0] at eL
  rw [z, gramR_zero, ← e0] at eR
  rw [z, gramX_zero, ← e0] at eX
  iapply (run_first c (grid0.coords t) _ _ _ _ _ _ _ _ _ _ _ _ _ _ _ _ _ _ _ _ _ _ _ _ _ _ _ _ _ _ _ _
    ((cond1_iff t).2 ht0) (fun h => by have := (cond2_iff t).1 h; omega) (x1 := iblk m c 0 t) (x2 := iblk m c 1 t) (x3 := iblk m c 2 t) (x4 := iblk m c 3 t) (x5 := iblk m c 4 t) (x6 := iblk m c 5 t) (x7 := iblk m c 6 t) (x8 := iblk m c 7 t) (x9 := iblk m c 8 t) (x10 := win0_9.fill (grid0.coords t) d9 (iblk m c 9 t)) (x11 := win0_10.fill (grid0.coords t) d10 (iblk m c 10 t))
    (x13 := f0) (x14 := f1) (x15 := f2) (x16 := f3) (E := Set.univ) (K := K))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  iapply Hk
  isplitl [S0 S1 S2 S3 Hg]
  · isplitr [Hg]
    · isplitl [S0]; · rw [← e0]; try iexact S0
      isplitl [S1]; · rw [← eL]; try iexact S1
      isplitl [S2]; · rw [← eR]; try iexact S2
      rw [← eX]; try iexact S3
    · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A point that is neither the first nor the last. -/
theorem body_mid (c : Dev nD) (t : Fin cfg0.N) (ht0 : t.val ≠ 0) (ht1 : t.val ≠ 34) (d9 d10 : S1x288x10000.Idx → Elt Ideal .f32) (K : PUnit → sProp 𝕄) :
    iprop((inv m c t.val ∗ held m c t d9 d10) ∗ (inv m c (t.val + 1) ∗ held m c t d9 d10 -∗ K ⟨⟩))
      ⊢ wp frame (wpE (defs₀ (F := Ideal)) Variants.none c none) Set.univ (bodyAt0 t) K := by
  unfold inv
  rw [if_neg ht0, if_neg (Nat.succ_ne_zero _)]
  unfold held tracked
  iintro ⟨⟨⟨⟨S0, S1, S2, S3⟩, Hg⟩, H0, H1, H2, H3, H4, H5, H6, H7, H8, H9, H10⟩, Hk⟩
  iapply (run_mid c (grid0.coords t) _ _ _ _ _ _ _ _ _ _ _ _ _ _ _ _ _ _ _ _ _ _ _ _ _ _ _ _ _ _ _ _
    (fun h => ht0 ((cond1_iff t).1 h)) (fun h => ht1 ((cond2_iff t).1 h)) (x10 := win0_9.fill (grid0.coords t) d9 (iblk m c 9 t)) (x11 := win0_10.fill (grid0.coords t) d10 (iblk m c 10 t))
    (x13 := actsOf m c) (x14 := gramL m c (t.val * 288)) (x15 := gramR m c (t.val * 288)) (x16 := gramX m c (t.val * 288)) (E := Set.univ) (K := K))
  isplitl [H9]; · iexact H9
  isplitl [H10]; · iexact H10
  isplitl [S0]; · iexact S0
  isplitl [S1]; · iexact S1
  isplitl [S2]; · iexact S2
  isplitl [S3]; · iexact S3
  iintro ⟨H9, H10, S0, S1, S2, S3⟩
  iapply Hk
  isplitl [S0 S1 S2 S3 Hg]
  · isplitr [Hg]
    · isplitl [S0]; · iexact S0
      isplitl [S1]; · rw [← stepL m c t d9]; try iexact S1
      isplitl [S2]; · rw [← stepR m c t d10]; try iexact S2
      rw [← stepX m c t d9 d10]; try iexact S3
    · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The last point: the loss is stored. -/
theorem body_last (c : Dev nD) (t : Fin cfg0.N) (ht1 : t.val = 34) (d9 d10 : S1x288x10000.Idx → Elt Ideal .f32) (X : S1x1.Idx → Elt Ideal .f32) (K : PUnit → sProp 𝕄) :
    iprop((inv m c t.val ∗ held m c t d9 d10 ∗ owns (c : Thread nD τ) (win0_11.stage (cfg0.slots t 11)) fullShare X)
        ∗ (inv m c (t.val + 1) ∗ held m c t d9 d10 ∗ owns (c : Thread nD τ) (win0_11.stage (cfg0.slots t 11)) fullShare (out m c) -∗ K ⟨⟩))
      ⊢ wp frame (wpE (defs₀ (F := Ideal)) Variants.none c none) Set.univ (bodyAt0 t) K := by
  have ht0 : t.val ≠ 0 := by omega
  unfold inv
  rw [if_neg ht0, if_neg (Nat.succ_ne_zero _)]
  unfold held tracked
  iintro ⟨⟨⟨⟨S0, S1, S2, S3⟩, Hg⟩, ⟨H0, H1, H2, H3, H4, H5, H6, H7, H8, H9, H10⟩, H11⟩, Hk⟩
  have e : loss (next14 (grid0.coords t) (win0_9.fill (grid0.coords t) d9 (iblk m c 9 t)) (actsOf m c) (gramL m c (t.val * 288)))
      (next15 (grid0.coords t) (win0_10.fill (grid0.coords t) d10 (iblk m c 10 t)) (actsOf m c) (gramR m c (t.val * 288)))
      (next16 (grid0.coords t) (win0_9.fill (grid0.coords t) d9 (iblk m c 9 t)) (win0_10.fill (grid0.coords t) d10 (iblk m c 10 t)) (actsOf m c) (gramX m c (t.val * 288))) = out m c := by
    rw [stepL m c t d9, stepR m c t d10, stepX m c t d9 d10, ht1]; rfl
  iapply (run_last c (grid0.coords t) _ _ _ _ _ _ _ _ _ _ _ _ _ _ _ _ _ _ _ _ _ _ _ _ _ _ _ _ _ _ _ _
    (fun h => ht0 ((cond1_iff t).1 h)) ((cond2_iff t).2 ht1) (x10 := win0_9.fill (grid0.coords t) d9 (iblk m c 9 t)) (x11 := win0_10.fill (grid0.coords t) d10 (iblk m c 10 t)) (x12 := X)
    (x13 := actsOf m c) (x14 := gramL m c (t.val * 288)) (x15 := gramR m c (t.val * 288)) (x16 := gramX m c (t.val * 288)) (E := Set.univ) (K := K))
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H9, H10, H11, S0, S1, S2, S3⟩
  iapply Hk
  isplitl [S0 S1 S2 S3 Hg]
  · isplitr [Hg]
    · isplitl [S0]; · iexact S0
      isplitl [S1]; · rw [← stepL m c t d9]; try iexact S1
      isplitl [S2]; · rw [← stepR m c t d10]; try iexact S2
      rw [← stepX m c t d9 d10]; try iexact S3
    · iexact Hg
  isplitr [H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [← e]; try iexact H11

/-- What is left of the result's staging buffer: as found before the last point, the loss after it. -/
theorem leaves_idle (c : Dev nD) (t : Fin cfg0.N) (ht1 : t.val ≠ 34) :
    iprop(∃ d, owns (c : Thread nD τ) ((cfg0.win 11).stage (cfg0.slots t 11)) fullShare ((dats m 0 c).before 11 t d)) ⊢ ((dats m 0 c).leaves 11 t : sProp 𝕄) := by
  have hi : cfg0.idle 11 (cfg0.grid.coords t) = true := by
    show (!(k0_cond2 (grid0.coords t) == 1#1)) = true
    rw [Bool.not_eq_true', beq_eq_false_iff_ne]; exact fun h => ht1 ((cond2_iff t).1 h)
  have hf : (cfg0.win 11).flush t = false := by
    rw [Bool.eq_false_iff]; intro h; have := (flush0_11 t).1 h; have : t.val < 35 := t.isLt; omega
  unfold Dat.leaves
  rw [hi, hf]
theorem leaves_last (c : Dev nD) (t : Fin cfg0.N) (ht1 : t.val = 34) :
    owns (c : Thread nD τ) ((cfg0.win 11).stage (cfg0.slots t 11)) fullShare (out m c) ⊢ ((dats m 0 c).leaves 11 t : sProp 𝕄) := by
  have hi : cfg0.idle 11 (cfg0.grid.coords t) = false := by
    show (!(k0_cond2 (grid0.coords t) == 1#1)) = false
    rw [(cond2_iff t).2 ht1]; rfl
  unfold Dat.leaves
  rw [hi]
  exact .rfl

set_option maxHeartbeats 1600000 in
theorem body_obligation (c : Dev nD) : BodyObligationLoose (dats m 0 c) (defs₀ (F := Ideal)) Variants.none () Set.univ := fun t => by
  rw [bigSep_W0, bigSep_W0, defs₀_row]
  rw [show (dats m 0 c).Φ t.succ = inv m c (t.val + 1) from rfl, show (dats m 0 c).Φ t.castSucc = inv m c t.val from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5,
    before0_6_of m (dats m 0 c) rfl (fun _ => rfl) t d6, before0_7_of m (dats m 0 c) rfl (fun _ => rfl) t d7,
    before0_8_of m (dats m 0 c) rfl (fun _ => rfl) t d8, before_9 m c t d9, before_10 m c t d10]
  have hx : win0_9.cut (grid0.coords t) (adj0 m c t) = iblk m c 9 t := win0_9.cut_fill _ _ _
  have hy : win0_10.cut (grid0.coords t) (adj1 m c t) = iblk m c 10 t := win0_10.cut_fill _ _ _
  by_cases ht1 : t.val = 34
  · iapply (body_last m c t ht1 d9 d10 _ _)
    isplitr [Ho]
    · isplitl [HΦ]; · iexact HΦ
      isplitr [H11]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      iexact H11
    iintro ⟨HΦ, ⟨H0, H1, H2, H3, H4, H5, H6, H7, H8, H9, H10⟩, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9
      change _ ⊢ owns (c : Thread nD τ) (win0_9.stage (cfg0.slots t 9)) fullShare (win0_9.fill (grid0.coords t) d9 (win0_9.cut (grid0.coords t) (adj0 m c t)))
      rw [hx]
    isplitl [H10]
    · iexists d10
      change _ ⊢ owns (c : Thread nD τ) (win0_10.stage (cfg0.slots t 10)) fullShare (win0_10.fill (grid0.coords t) d10 (win0_10.cut (grid0.coords t) (adj1 m c t)))
      rw [hy]
    iapply (leaves_last m c t ht1)
    iexact H11
  by_cases ht0 : t.val = 0
  · iapply (body_first m c t ht0 d9 d10 _)
    isplitr [Ho H11]
    · isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro ⟨HΦ, H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9
      change _ ⊢ owns (c : Thread nD τ) (win0_9.stage (cfg0.slots t 9)) fullShare (win0_9.fill (grid0.coords t) d9 (win0_9.cut (grid0.coords t) (adj0 m c t)))
      rw [hx]
    isplitl [H10]
    · iexists d10
      change _ ⊢ owns (c : Thread nD τ) (win0_10.stage (cfg0.slots t 10)) fullShare (win0_10.fill (grid0.coords t) d10 (win0_10.cut (grid0.coords t) (adj1 m c t)))
      rw [hy]
    iapply (leaves_idle m c t ht1)
    iexists d11; iexact H11
  · iapply (body_mid m c t ht0 ht1 d9 d10 _)
    isplitr [Ho H11]
    · isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro ⟨HΦ, H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists d9
      change _ ⊢ owns (c : Thread nD τ) (win0_9.stage (cfg0.slots t 9)) fullShare (win0_9.fill (grid0.coords t) d9 (win0_9.cut (grid0.coords t) (adj0 m c t)))
      rw [hx]
    isplitl [H10]
    · iexists d10
      change _ ⊢ owns (c : Thread nD τ) (win0_10.stage (cfg0.slots t 10)) fullShare (win0_10.fill (grid0.coords t) d10 (win0_10.cut (grid0.coords t) (adj1 m c t)))
      rw [hy]
    iapply (leaves_idle m c t ht1)
    iexists d11; iexact H11

/-- The scratch buffers after the last point, at some contents. -/
theorem inv_out (c : Dev nD) : inv m c 35 ⊢ Pipeline.ΦA spec0 c := by
  unfold inv
  rw [if_neg (by decide)]
  unfold tracked Pipeline.ΦA
  rw [scoped_eq]
  iintro ⟨⟨S0, S1, S2, S3⟩, Hg⟩
  isplitr [Hg]
  · isplitl [S0]; · iexists _; iexact S0
    isplitl [S1]; · iexists _; iexact S1
    isplitl [S2]; · iexists _; iexact S2
    iexists _; iexact S3
  · iexact Hg

/-- The result's array after the region holds the loss. -/
theorem arr_out (c : Dev nD) : (dats m 0 c).arrAt 11 cfg0.N = out m c := by
  refine (dats m 0 c).arrAt_eq_of_covers 11 _ (by decide +kernel) fun t hf y => ?_
  blk_simp
  show out m c y = out m c ((win0_11.blk t).view.emb y)
  congr 1
  funext a
  match a with
  | ⟨0, _⟩ => exact Subsingleton.elim (α := Fin 1) _ _
  | ⟨1, _⟩ => exact Subsingleton.elim (α := Fin 1) _ _

/-- The scalar result the program returns. -/
theorem tail_v5 (c : Dev nD) : Pipeline.afterTail₀ cfgs (dats m) 0 (V0 m) [hostOps1] c main_v5 = shapeCast S_ (out m c) shapeCasts_S1x1_S_ := by
  unfold Pipeline.afterTail₀
  simp only [hostOps1, List.flatten_cons, List.flatten_nil, List.append_nil]
  after_results
  exact congrArg (fun X => shapeCast S_ X shapeCasts_S1x1_S_)
    ((Pipeline.Dat.withArrays_arrAt (dats m 0 c) sharedIn0 (V0 m c) (fun _ => rfl) 11).trans (arr_out m c))
theorem tail_cst (c : Dev nD) : Pipeline.afterTail₀ cfgs (dats m) 0 (V0 m) [hostOps1] c main_cst = constant (F := Ideal) S_ .f32 0x00000000#32 := by
  unfold Pipeline.afterTail₀
  simp only [hostOps1, List.flatten_cons, List.flatten_nil, List.append_nil]
  after_results

set_option backward.isDefEq.respectTransparency.types false in
/-- Every execution of @main ends with the loss in its first result, zero in its second, the arguments as launched and
    every counter at zero. -/
theorem run : θ_run defs (onTc (τ := τ) (main (F := Ideal))) ⟨m, fun _ => 0, ρ⟩ (fun r => (∀ c : Dev nD,
      r.2.mem ((c.tc : Thread nD τ).loc main_v5) = shapeCast S_ (out m c) shapeCasts_S1x1_S_
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_frame_around_track_shared cfgs (dats m) (0 : Fin 1) launch₀0 defs₀ Variants.none m ρ main
    (body_obligation m) (fun _ _ _ => rfl) (fun _ _ => rfl) (V0 m) [hostOps1] sfx_sub sfx_fresh sfx_keeps
    (hmain m Variants.none) (fun _ _ => rfl) (fun c => by rw [show (dats m 0 c).Φ 0 = Pipeline.ΦA spec0 c from rfl]) (fun c => inv_out m c) _ (by
      rintro r ⟨h, hs⟩
      refine ⟨fun c => ?_, hs⟩
      exact ⟨((h c).2 main_v5 (Pipeline.mem_restRefs_of main_v5 (by decide) (by decide))).trans (tail_v5 m c),
        ((h c).2 main_cst (Pipeline.mem_restRefs_of main_cst (by decide) (by decide))).trans (tail_cst m c),
        ((h c).1 0).trans (((dats m 0 c).arrAt_in 0 rfl _).trans (V_main_arg0 m c)),
        ((h c).1 10).trans (((dats m 0 c).arrAt_in 10 rfl _).trans (V_main_arg1 m c)),
        ((h c).1 1).trans (((dats m 0 c).arrAt_in 1 rfl _).trans (V_main_arg2 m c)),
        ((h c).2 main_arg3 (Pipeline.mem_restRefs_of main_arg3 (by decide) (by decide))).trans (W_main_arg3 m (dats m) c),
        ((h c).1 3).trans (((dats m 0 c).arrAt_in 3 rfl _).trans (V_main_arg4 m c)),
        ((h c).2 main_arg5 (Pipeline.mem_restRefs_of main_arg5 (by decide) (by decide))).trans (W_main_arg5 m (dats m) c),
        ((h c).1 5).trans (((dats m 0 c).arrAt_in 5 rfl _).trans (V_main_arg6 m c)),
        ((h c).2 main_arg7 (Pipeline.mem_restRefs_of main_arg7 (by decide) (by decide))).trans (W_main_arg7 m (dats m) c),
        ((h c).1 7).trans (((dats m 0 c).arrAt_in 7 rfl _).trans (V_main_arg8 m c)),
        ((h c).2 main_arg9 (Pipeline.mem_restRefs_of main_arg9 (by decide) (by decide))).trans (W_main_arg9 m (dats m) c)⟩)

end Cert.KernelIdeal.Run

end
-- ==== Proof.RefMath.lean ====
/-
  What the reference computes over the extended reals, read at an index: an encoder, a propagated encoder, a Gram
  matrix, and the loss of one Gram matrix with its diagonal gathered.
-/
module

public import proofs.«01_k».proof.Proof.Gen.ReferenceIdeal.Run
public import Idealize.ShloMosaic.Lib.Pointwise

@[expose] public section

set_option maxRecDepth 16384

noncomputable section

namespace Cert.ReferenceIdeal.Math

open Cert.ReferenceIdeal Cert.ReferenceIdeal.Gen
open Idealize.ShloMosaic Idealize.ShloMosaic.TcCoe

/-- An encoder. -/
def refEnc (x : FVec Ideal S10000x128 .f32) (w : FVec Ideal S128x128 .f32) (b : FVec Ideal S128 .f32) (w' : FVec Ideal S128x64 .f32)
    (b' : FVec Ideal S64 .f32) : FVec Ideal S10000x64 .f32 :=
  addf (Host.dotGeneral dot_S10000x128_S128x64_S10000x64_1_0_0_1_n_n none
      (maximumf (addf (Host.dotGeneral dot_S10000x128_S128x128_S10000x128_1_0_0_1_n_n none x w)
          (broadcastInDim S10000x128 ![0, 1] bcast_S1x128_S10000x128_0_1 (broadcastInDim S1x128 ![1] bcast_S128_S1x128_1 b)))
        (broadcastInDim S10000x128 ![] bcast_S_S10000x128 (constant S_ .f32 0x00000000#32))) w')
    (broadcastInDim S10000x64 ![0, 1] bcast_S1x64_S10000x64_0_1 (broadcastInDim S1x64 ![1] bcast_S64_S1x64_1 b'))

/-- The first and the second adjacency matrix times an encoder. -/
def refPropL (A : FVec Ideal S2x10000x10000 .f32) (H : FVec Ideal S10000x64 .f32) : FVec Ideal S10000x64 .f32 :=
  Host.dotGeneral dot_S10000x10000_S10000x64_S10000x64_1_0_0_1_n_n none
    (shapeCast _ (extractStridedSlice S1x10000x10000 ![0, 0, 0] A slices_S2x10000x10000_S1x10000x10000_0_0_0) shapeCasts_S1x10000x10000_S10000x10000) H
def refPropR (A : FVec Ideal S2x10000x10000 .f32) (H : FVec Ideal S10000x64 .f32) : FVec Ideal S10000x64 .f32 :=
  Host.dotGeneral dot_S10000x10000_S10000x64_S10000x64_1_0_0_1_n_n none
    (shapeCast _ (extractStridedSlice S1x10000x10000 ![1, 0, 0] A slices_S2x10000x10000_S1x10000x10000_1_0_0) shapeCasts_S1x10000x10000_S10000x10000) H

/-- The Gram matrix of two propagated or plain encoders. -/
def refGram (P Q : FVec Ideal S10000x64 .f32) : FVec Ideal S64x64 .f32 :=
  Host.dotGeneral dot_S64x10000_S10000x64_S64x64_1_0_0_1_n_n none (transpose S64x10000 [1, 0] P transposes_S10000x64_S64x10000_1_0) Q

/-- The positions 0 to 63, a negative one counted from the end. -/
def refPos : IVec S64 32 :=
  select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0)
def refDiagIdx : IVec S64x2 32 :=
  concatenate S64x2 1 [⟨S64x1, (broadcastInDim S64x1 ![0] bcast_S64_S64x1_0 refPos : IVec S64x1 32)⟩, ⟨S64x1, broadcastInDim S64x1 ![0] bcast_S64_S64x1_0 refPos⟩]
    concatenates_S64x1_S64x1_S64x2_d1

/-- The diagonal, gathered. -/
def refDiag (C : FVec Ideal S64x64 .f32) : FVec Ideal S64 .f32 := Host.gather gather_S64x64_S64x2_S64_n_01_n_n_01_1_11 C refDiagIdx

/-- The loss of one Gram matrix. -/
def refLoss (C : FVec Ideal S64x64 .f32) : FVec Ideal S_ .f32 :=
  mulf (addf (Host.reduceAdd (mulf (subf (refDiag C) (broadcastInDim S64 ![] bcast_S_S64 (constant S_ .f32 0x3F800000#32)))
          (subf (refDiag C) (broadcastInDim S64 ![] bcast_S_S64 (constant S_ .f32 0x3F800000#32)))) (constant S_ .f32 0x00000000#32) reducesTo_S64_S_d0 h_S_)
      (mulf (constant S_ .f32 0x3A83126F#32)
        (subf (Host.reduceAdd (mulf C C) (constant S_ .f32 0x00000000#32) reducesTo_S64x64_S_d0_1 h_S_)
          (Host.reduceAdd (mulf (refDiag C) (refDiag C)) (constant S_ .f32 0x00000000#32) reducesTo_S64_S_d0 h_S_))))
    (constant S_ .f32 0x3F800000#32)

variable (m : (ℓ : Loc nD τ sig) → Buf (Elt Ideal) ℓ) (c : Dev nD)

def encA : FVec Ideal S10000x64 .f32 := refEnc (m ((c.tc : Thread nD τ).loc main_arg0)) (m ((c.tc : Thread nD τ).loc main_arg2))
  (m ((c.tc : Thread nD τ).loc main_arg3)) (m ((c.tc : Thread nD τ).loc main_arg4)) (m ((c.tc : Thread nD τ).loc main_arg5))
def encB : FVec Ideal S10000x64 .f32 := refEnc (m ((c.tc : Thread nD τ).loc main_arg0)) (m ((c.tc : Thread nD τ).loc main_arg6))
  (m ((c.tc : Thread nD τ).loc main_arg7)) (m ((c.tc : Thread nD τ).loc main_arg8)) (m ((c.tc : Thread nD τ).loc main_arg9))
def propA : FVec Ideal S10000x64 .f32 := refPropL (m ((c.tc : Thread nD τ).loc main_arg1)) (encA m c)
def propB : FVec Ideal S10000x64 .f32 := refPropR (m ((c.tc : Thread nD τ).loc main_arg1)) (encB m c)

/-- The reference's first result in these terms. -/
theorem res_eq : (Value.res_main_v116 m c : FVec Ideal S_ .f32)
    = addf (addf (addf (constant S_ .f32 0x00000000#32) (refLoss (refGram (propA m c) (encA m c)))) (refLoss (refGram (propB m c) (encB m c))))
      (addf (constant S_ .f32 0x00000000#32) (refLoss (refGram (propA m c) (propB m c)))) := rfl

theorem refEnc_at (x : FVec Ideal S10000x128 .f32) (w : FVec Ideal S128x128 .f32) (b : FVec Ideal S128 .f32) (w' : FVec Ideal S128x64 .f32)
    (b' : FVec Ideal S64 .f32) (r : Fin 10000) (a : Fin 64) :
    refEnc x w b w' b' (ix2 r a)
      = (∑ k : Fin 128, max ((∑ l : Fin 128, x (ix2 r l) * w (ix2 l k)) + b (ix1 k)) 0 * w' (ix2 k a)) + b' (ix1 a) := by
  pointwise [refEnc]

theorem refPropL_at (A : FVec Ideal S2x10000x10000 .f32) (H : FVec Ideal S10000x64 .f32) (r : Fin 10000) (a : Fin 64) :
    refPropL A H (ix2 r a) = ∑ k : Fin 10000, A (ix3 0 r k) * H (ix2 k a) := by
  pointwise [refPropL]
theorem refPropR_at (A : FVec Ideal S2x10000x10000 .f32) (H : FVec Ideal S10000x64 .f32) (r : Fin 10000) (a : Fin 64) :
    refPropR A H (ix2 r a) = ∑ k : Fin 10000, A (ix3 1 r k) * H (ix2 k a) := by
  pointwise [refPropR]

theorem refGram_at (P Q : FVec Ideal S10000x64 .f32) (a b : Fin 64) :
    refGram P Q (ix2 a b) = ∑ r : Fin 10000, P (ix2 r a) * Q (ix2 r b) := by
  pointwise [refGram]

theorem refPos_at (a : Fin 64) : refPos (ix1 a) = BitVec.ofNat 32 a.val := by
  revert a; decide +kernel

theorem refDiagIdx_at (a : Fin 64) (k : Fin 2) : refDiagIdx (ix2 a k) = BitVec.ofNat 32 a.val := by
  revert a k; decide +kernel

theorem refDiag_at (C : FVec Ideal S64x64 .f32) (a : Fin 64) : refDiag C (ix1 a) = C (ix2 a a) := by
  unfold refDiag Host.gather
  congr 1
  revert a; decide +kernel

theorem refLoss_at (C : FVec Ideal S64x64 .f32) : refLoss C ix0
    = (∑ a, (C (ix2 a a) - 1) * (C (ix2 a a) - 1)) + Ideal.ofBits .f32 0x3A83126F#32 * ((∑ a, ∑ b, C (ix2 a b) * C (ix2 a b)) - ∑ a, C (ix2 a a) * C (ix2 a a)) := by
  pointwise [refLoss]
  simp only [refDiag_at]

end Cert.ReferenceIdeal.Math
end
-- ==== Proof.IdealValue.lean ====
/-
  The kernel's loss is the reference's: the two programs' encoders, propagated encoders and Gram matrices agree at every
  index, and so do the losses read off them.
-/
module

public import proofs.«01_k».proof.Proof.IdealRun
public import proofs.«01_k».proof.Proof.RefMath

@[expose] public section

set_option maxRecDepth 16384

noncomputable section

namespace Cert.KernelIdeal.Value

open Cert.KernelIdeal Cert.KernelIdeal.Gen Cert.KernelIdeal.Body Cert.KernelIdeal.Math Cert.KernelIdeal.Run
open Cert.ReferenceIdeal.Math (refEnc refEnc_at refPropL refPropL_at refPropR refPropR_at refGram refGram_at refLoss refLoss_at encA encB propA propB)
open Idealize.ShloMosaic Idealize.ShloMosaic.TcCoe

variable (m : (ℓ : Loc nD τ sig) → Buf (Elt Ideal) ℓ) (c : Dev nD)

/-- The biases as the kernel sees them: rows of the launched vectors. -/
theorem x3_at (k : Fin 128) : x3 m c (ix2 0 k) = (m ((c.tc : Thread nD τ).loc main_arg3) : FVec Ideal S128 .f32) (ix1 k) := by
  have e : V m c main_v0 = shapeCast S1x128 (m ((c.tc : Thread nD τ).loc main_arg3) : FVec Ideal S128 .f32) shapeCasts_S128_S1x128 := by
    show StableHlo.after [hostOps0].flatten _ _ = _
    simp only [hostOps0, List.flatten_cons, List.flatten_nil, List.append_nil]
    after_results
    rfl
  unfold x3; rw [e]; pointwise
theorem x5_at (k : Fin 64) : x5 m c (ix2 0 k) = (m ((c.tc : Thread nD τ).loc main_arg5) : FVec Ideal S64 .f32) (ix1 k) := by
  have e : V m c main_v1 = shapeCast S1x64 (m ((c.tc : Thread nD τ).loc main_arg5) : FVec Ideal S64 .f32) shapeCasts_S64_S1x64 := by
    show StableHlo.after [hostOps0].flatten _ _ = _
    simp only [hostOps0, List.flatten_cons, List.flatten_nil, List.append_nil]
    after_results
    rfl
  unfold x5; rw [e]; pointwise
theorem x7_at (k : Fin 128) : x7 m c (ix2 0 k) = (m ((c.tc : Thread nD τ).loc main_arg7) : FVec Ideal S128 .f32) (ix1 k) := by
  have e : V m c main_v2 = shapeCast S1x128 (m ((c.tc : Thread nD τ).loc main_arg7) : FVec Ideal S128 .f32) shapeCasts_S128_S1x128 := by
    show StableHlo.after [hostOps0].flatten _ _ = _
    simp only [hostOps0, List.flatten_cons, List.flatten_nil, List.append_nil]
    after_results
    rfl
  unfold x7; rw [e]; pointwise
theorem x9_at (k : Fin 64) : x9 m c (ix2 0 k) = (m ((c.tc : Thread nD τ).loc main_arg9) : FVec Ideal S64 .f32) (ix1 k) := by
  have e : V m c main_v3 = shapeCast S1x64 (m ((c.tc : Thread nD τ).loc main_arg9) : FVec Ideal S64 .f32) shapeCasts_S64_S1x64 := by
    show StableHlo.after [hostOps0].flatten _ _ = _
    simp only [hostOps0, List.flatten_cons, List.flatten_nil, List.append_nil]
    after_results
    rfl
  unfold x9; rw [e]; pointwise

/-- The kernel's encoders are the reference's, at every index. -/
theorem encL_ref (r : Fin 10000) (a : Fin 64) : encL m c r a
    = refEnc (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (ix2 r a) := by
  show k0_pay4 (x1 m c) (x2 m c) (x3 m c) (x4 m c) (x5 m c) (ix2 r a) = _
  rw [enc_at, refEnc_at, x5_at]
  simp only [x3_at]
  unfold x1 x2 x4
  rw [V_main_arg0, V_main_arg2, V_main_arg4]
theorem encR_ref (r : Fin 10000) (a : Fin 64) : encR m c r a
    = refEnc (m ((c.tc : Thread nD τ).loc main_arg0)) (m ((c.tc : Thread nD τ).loc main_arg6)) (m ((c.tc : Thread nD τ).loc main_arg7))
        (m ((c.tc : Thread nD τ).loc main_arg8)) (m ((c.tc : Thread nD τ).loc main_arg9)) (ix2 r a) := by
  show k0_pay4 (x1 m c) (x6 m c) (x7 m c) (x8 m c) (x9 m c) (ix2 r a) = _
  rw [enc_at, refEnc_at, x9_at]
  simp only [x7_at]
  unfold x1 x6 x8
  rw [V_main_arg0, V_main_arg6, V_main_arg8]

/-- The propagated encoders likewise. -/
theorem propL_ref (H : FVec Ideal S10000x64 .f32) (e : ∀ r a, encL m c r a = H (ix2 r a)) (r : Fin 10000) (a : Fin 64) :
    prop (adjL m c) (encL m c) r a = refPropL (m ((c.tc : Thread nD τ).loc main_arg1)) H (ix2 r a) := by
  rw [refPropL_at]; unfold prop adjL
  rw [V_main_arg1]
  exact Finset.sum_congr rfl fun k _ => congrArg _ (e k a)
theorem propR_ref (H : FVec Ideal S10000x64 .f32) (e : ∀ r a, encR m c r a = H (ix2 r a)) (r : Fin 10000) (a : Fin 64) :
    prop (adjR m c) (encR m c) r a = refPropR (m ((c.tc : Thread nD τ).loc main_arg1)) H (ix2 r a) := by
  rw [refPropR_at]; unfold prop adjR
  rw [V_main_arg1]
  exact Finset.sum_congr rfl fun k _ => congrArg _ (e k a)

/-- A finished accumulator is the reference's Gram matrix. -/
theorem gram_ref (P Q : Fin 10000 → Fin 64 → EReal) (P' Q' : FVec Ideal S10000x64 .f32) (hP : ∀ r a, P r a = P' (ix2 r a)) (hQ : ∀ r a, Q r a = Q' (ix2 r a))
    (a b : Fin 64) : gram P Q 10080 (ix2 a b) = refGram P' Q' (ix2 a b) := by
  rw [gram_at, gramSum_all, refGram_at]
  exact Finset.sum_congr rfl fun r _ => by rw [hP, hQ]

/-- The loss of a Gram matrix is the reference's. -/
theorem loss_ref (x : Vec Ideal S64x64 .f32) (C : FVec Ideal S64x64 .f32) (h : ∀ a b, x (ix2 a b) = C (ix2 a b)) :
    lossOf (fun a b => x (ix2 a b)) = refLoss C ix0 := by
  rw [refLoss_at]; unfold lossOf; simp only [h]

theorem value (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    Cert.ReferenceIdeal.Value.res_main_v116 m' c = shapeCast S_ (out m c) shapeCasts_S1x1_S_ := by
  have eA : ∀ r a, encL m c r a = encA m' c (ix2 r a) := fun r a => by
    rw [encL_ref]; unfold encA; rw [h0, h2, h3, h4, h5]
  have eB : ∀ r a, encR m c r a = encB m' c (ix2 r a) := fun r a => by
    rw [encR_ref]; unfold encB; rw [h0, h6, h7, h8, h9]
  have pA : ∀ r a, prop (adjL m c) (encL m c) r a = propA m' c (ix2 r a) := fun r a => by
    rw [propL_ref m c _ eA]; unfold propA; rw [h1]
  have pB : ∀ r a, prop (adjR m c) (encR m c) r a = propB m' c (ix2 r a) := fun r a => by
    rw [propR_ref m c _ eB]; unfold propB; rw [h1]
  have key : out m c (ix2 0 0) = refLoss (refGram (propA m' c) (encA m' c)) ix0 + refLoss (refGram (propB m' c) (encB m' c)) ix0
      + refLoss (refGram (propA m' c) (propB m' c)) ix0 := by
    unfold out gramL gramR gramX
    rw [loss_at, loss_ref _ _ (gram_ref _ _ _ _ pA eA), loss_ref _ _ (gram_ref _ _ _ _ pB eB), loss_ref _ _ (gram_ref _ _ _ _ pA pB)]
  refine (Cert.ReferenceIdeal.Math.res_eq m' c).trans ?_
  funext y
  obtain rfl : y = ix0 := funext fun a => a.elim0
  have hs : shapeCast S_ (out m c) shapeCasts_S1x1_S_ ix0 = out m c (ix2 0 0) := by pointwise
  refine Eq.trans ?_ (hs.trans key).symm
  pointwise

end Cert.KernelIdeal.Value
end
-- ==== Proof.lean ====
/-
  The claim: both kernels and the reference run to the end with their arguments unchanged and every counter at zero, the
  printed idealization is sanctioned, and over the extended reals the kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.frame m g,
  fun m g _ => (θ_run _ _ _).mono (fun _ h => ⟨fun c => (h.1 c).2.2, h.2⟩) (Cert.KernelIdeal.Run.run m g),
  fun m g _ => (θ_run _ _ _).mono (fun r h => ⟨fun c => (h c).2.2, sem_eq_zero_of_no_sems rfl r.2⟩) (Cert.ReferenceIdeal.Value.run m g),
  trivial,
  fun m g m' g' _ hargs => ⟨fun c => shapeCast _ (Cert.KernelIdeal.Run.out m c) Cert.KernelIdeal.Gen.shapeCasts_S1x1_S_,
    fun _ => constant (F := Ideal) _ .f32 0x00000000#32,
    (θ_run _ _ _).mono (fun _ h c => h.1 c) (Cert.KernelIdeal.Run.run m g),
    (θ_run _ _ _).mono (fun _ h c => ⟨(h c).1.trans (by
      obtain ⟨h0, h1, h2, h3, h4, h5, h6, h7, h8, h9⟩ := hargs c
      exact Cert.KernelIdeal.Value.value m c m' h0 h1 h2 h3 h4 h5 h6 h7 h8 h9), (h c).2⟩) (Cert.ReferenceIdeal.Value.run m' g')⟩⟩

end Cert.Proof

end
